-- ==== Defs.lean ====
def Pre_Kernel [hPre_ragged : Cert.Pre_ragged.Facts] (m : (ℓ : Loc Cert.Kernel.nD Cert.Kernel.τ Cert.Kernel.sig) → Buf (Elt Bits) ℓ) : Prop :=
  ∀ c : Dev Cert.Kernel.nD,
    (Cert.Pre_ragged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_ragged.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2 = (fun _ => 1#1)

def Pre_KernelIdeal [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] [hPre_ragged : Cert.Pre_ragged.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel) (hPre_ragged := hPre_ragged)
    ∧ quiescent_KernelIdeal (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal (hKernelIdeal := hKernelIdeal) (hReferenceIdeal := hReferenceIdeal) (hPre_ragged := hPre_ragged)
-- ==== Pre_ragged.lean ====
abbrev S24576x2048 : Shape := ⟨2, ![24576, 2048]⟩
abbrev S4 : Shape := ⟨1, ![4]⟩
abbrev S4x2048x1792 : Shape := ⟨3, ![4, 2048, 1792]⟩
abbrev S4x1792 : Shape := ⟨2, ![4, 1792]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S24576x2048 .bf16) (main_arg1 : IVec S4 32) (main_arg2 : FVec F S4 .f32) (main_arg3 : FVec F S4x2048x1792 .fp8e4m3) (main_arg4 : FVec F S4x1792 .f32) : IVec S4 1 × IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 24576#32
  let main_v2 : IVec S4 32 := broadcastInDim S4 ![] bcast_S_S4 main_c_0
  let main_v3 : IVec S4 1 := cmpi .sle main_arg1 main_v2
  let main_v4 : IVec S4 1 := andi main_v1 main_v3
  let main_c_1 : IVec S_ 32 := constantI S_ 32 0#32
  let main_v5 : IVec S_ 32 := (fun x v => Host.reduce IntOp.addi x v reducesTo_S4_S_d0 h_S_) main_arg1 main_c_1
  let main_c_2 : IVec S_ 32 := constantI S_ 32 24576#32
  let main_v6 : IVec S_ 1 := cmpi .eq main_v5 main_c_2
  (main_v4, main_v6)
-- ==== Kernel.lean ====
abbrev S24576x2048 : Shape := ⟨2, ![24576, 2048]⟩
abbrev S4 : Shape := ⟨1, ![4]⟩
abbrev S4x2048x1792 : Shape := ⟨3, ![4, 2048, 1792]⟩
abbrev S4x1792 : Shape := ⟨2, ![4, 1792]⟩
abbrev S_ : Shape := ⟨0, ![]⟩
abbrev S51 : Shape := ⟨1, ![51]⟩
abbrev S1 : Shape := ⟨1, ![1]⟩
abbrev S51x1 : Shape := ⟨2, ![51, 1]⟩
abbrev S1x4 : Shape := ⟨2, ![1, 4]⟩
abbrev S51x4 : Shape := ⟨2, ![51, 4]⟩
abbrev S4x1x1792 : Shape := ⟨3, ![4, 1, 1792]⟩
abbrev S24576x1792 : Shape := ⟨2, ![24576, 1792]⟩
abbrev S512x2048 : Shape := ⟨2, ![512, 2048]⟩
abbrev S1x2048x1792 : Shape := ⟨3, ![1, 2048, 1792]⟩
abbrev S1x1x1792 : Shape := ⟨3, ![1, 1, 1792]⟩
abbrev S512x1792 : Shape := ⟨2, ![512, 1792]⟩
abbrev S2048x1792 : Shape := ⟨2, ![2048, 1792]⟩
abbrev S1x1792 : Shape := ⟨2, ![1, 1792]⟩

abbrev nBuf : Space → Nat
  | .hbm => 147
  | .vmem => 8
  | .smem => 5
  | _ => 0

abbrev hbmTy0_0 (i : Nat) : BufTy := match i % 128 with
  | 0 => ⟨S24576x2048, .bf16⟩
  | 1 => ⟨S4, .i32⟩
  | 2 => ⟨S4, .f32⟩
  | 3 => ⟨S4x2048x1792, .fp8e4m3⟩
  | 4 => ⟨S4x1792, .f32⟩
  | 5 => ⟨S_, .i32⟩
  | 6 => ⟨S_, .i32⟩
  | 7 => ⟨S4, .i32⟩
  | 8 => ⟨S4, .i32⟩
  | 9 => ⟨S_, .i32⟩
  | 10 => ⟨S_, .i32⟩
  | 11 => ⟨S4, .i32⟩
  | 12 => ⟨S4, .i32⟩
  | 13 => ⟨S4, .i32⟩
  | 14 => ⟨S_, .i32⟩
  | 15 => ⟨S4, .i32⟩
  | 16 => ⟨S4, .i1⟩
  | 17 => ⟨S4, .i32⟩
  | 18 => ⟨S4, .i32⟩
  | 19 => ⟨S_, .i32⟩
  | 20 => ⟨S4, .i32⟩
  | 21 => ⟨S4, .i1⟩
  | 22 => ⟨S4, .i1⟩
  | 23 => ⟨S_, .i32⟩
  | 24 => ⟨S4, .i32⟩
  | 25 => ⟨S4, .i32⟩
  | 26 => ⟨S4, .i32⟩
  | 27 => ⟨S_, .i32⟩
  | 28 => ⟨S4, .i32⟩
  | 29 => ⟨S4, .i1⟩
  | 30 => ⟨S_, .i32⟩
  | 31 => ⟨S4, .i32⟩
  | 32 => ⟨S4, .i32⟩
  | 33 => ⟨S_, .i32⟩
  | 34 => ⟨S_, .i32⟩
  | 35 => ⟨S4, .i32⟩
  | 36 => ⟨S4, .i32⟩
  | 37 => ⟨S4, .i32⟩
  | 38 => ⟨S_, .i32⟩
  | 39 => ⟨S4, .i32⟩
  | 40 => ⟨S4, .i1⟩
  | 41 => ⟨S4, .i32⟩
  | 42 => ⟨S4, .i32⟩
  | 43 => ⟨S_, .i32⟩
  | 44 => ⟨S4, .i32⟩
  | 45 => ⟨S4, .i1⟩
  | 46 => ⟨S4, .i1⟩
  | 47 => ⟨S_, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S_, .i32⟩
  | 57 => ⟨S4, .i32⟩
  | 58 => ⟨S4, .i32⟩
  | 59 => ⟨S_, .i32⟩
  | 60 => ⟨S_, .i32⟩
  | 61 => ⟨S4, .i32⟩
  | 62 => ⟨S51, .i32⟩
  | 63 => ⟨S1, .i32⟩
  | 64 => ⟨S_, .i32⟩
  | 65 => ⟨S_, .i32⟩
  | 66 => ⟨S_, .i32⟩
  | 67 => ⟨S51, .i32⟩
  | 68 => ⟨S51, .i32⟩
  | 69 => ⟨S51x1, .i32⟩
  | 70 => ⟨S1x4, .i32⟩
  | 71 => ⟨S51x4, .i32⟩
  | 72 => ⟨S51x4, .i32⟩
  | 73 => ⟨S51x4, .i1⟩
  | 74 => ⟨S51x4, .i32⟩
  | 75 => ⟨S_, .i32⟩
  | 76 => ⟨S_, .i32⟩
  | 77 => ⟨S51, .i32⟩
  | 78 => ⟨S51, .i1⟩
  | 79 => ⟨S_, .i32⟩
  | 80 => ⟨S51, .i32⟩
  | 81 => ⟨S51, .i32⟩
  | 82 => ⟨S51, .i32⟩
  | 83 => ⟨S51x1, .i32⟩
  | 84 => ⟨S51, .i32⟩
  | 85 => ⟨S51, .i32⟩
  | 86 => ⟨S_, .i32⟩
  | 87 => ⟨S51, .i32⟩
  | 88 => ⟨S51, .i1⟩
  | 89 => ⟨S_, .i32⟩
  | 90 => ⟨S51, .i32⟩
  | 91 => ⟨S51, .i32⟩
  | 92 => ⟨S51, .i32⟩
  | 93 => ⟨S51x1, .i32⟩
  | 94 => ⟨S51, .i32⟩
  | 95 => ⟨S_, .i32⟩
  | 96 => ⟨S51, .i32⟩
  | 97 => ⟨S51, .i1⟩
  | 98 => ⟨S_, .i32⟩
  | 99 => ⟨S51, .i32⟩
  | 100 => ⟨S51, .i32⟩
  | 101 => ⟨S51, .i32⟩
  | 102 => ⟨S51x1, .i32⟩
  | 103 => ⟨S51, .i32⟩
  | 104 => ⟨S51, .i32⟩
  | 105 => ⟨S_, .i32⟩
  | 106 => ⟨S51, .i32⟩
  | 107 => ⟨S51, .i1⟩
  | 108 => ⟨S_, .i32⟩
  | 109 => ⟨S51, .i32⟩
  | 110 => ⟨S51, .i32⟩
  | 111 => ⟨S51, .i32⟩
  | 112 => ⟨S51x1, .i32⟩
  | 113 => ⟨S51, .i32⟩
  | 114 => ⟨S_, .i32⟩
  | 115 => ⟨S51, .i32⟩
  | 116 => ⟨S51, .i32⟩
  | 117 => ⟨S51, .i32⟩
  | 118 => ⟨S_, .i32⟩
  | 119 => ⟨S_, .i32⟩
  | 120 => ⟨S_, .i32⟩
  | 121 => ⟨S51, .i32⟩
  | 122 => ⟨S51, .i32⟩
  | 123 => ⟨S_, .i32⟩
  | 124 => ⟨S51, .i32⟩
  | 125 => ⟨S_, .i32⟩
  | 126 => ⟨S51, .i32⟩
  | 127 => ⟨S51, .i1⟩
  | _ => ⟨S24576x2048, .bf16⟩

abbrev hbmTy0_1 (i : Nat) : BufTy := match i % 128 with
  | 0 => ⟨S_, .i32⟩
  | 1 => ⟨S51, .i32⟩
  | 2 => ⟨S51, .i32⟩
  | 3 => ⟨S51, .i32⟩
  | 4 => ⟨S51x1, .i32⟩
  | 5 => ⟨S51, .i32⟩
  | 6 => ⟨S_, .i32⟩
  | 7 => ⟨S51, .i32⟩
  | 8 => ⟨S51, .i32⟩
  | 9 => ⟨S51, .i32⟩
  | 10 => ⟨S_, .i32⟩
  | 11 => ⟨S_, .i32⟩
  | 12 => ⟨S_, .i32⟩
  | 13 => ⟨S51, .i32⟩
  | 14 => ⟨S51, .i32⟩
  | 15 => ⟨S_, .i32⟩
  | 16 => ⟨S51, .i32⟩
  | 17 => ⟨S4x1x1792, .f32⟩
  | 18 => ⟨S24576x1792, .bf16⟩
  | _ => ⟨S24576x2048, .bf16⟩

abbrev hbmTy (i : Nat) : BufTy := match i / 128 with
  | 0 => hbmTy0_0 i
  | 1 => hbmTy0_1 i
  | _ => ⟨S24576x2048, .bf16⟩

abbrev bufTy : (tb : Table) → Fin (tcTables nBuf tb) → BufTy
  | .hbm, ⟨i, _⟩ => hbmTy i
  | .local _ .vmem, ⟨0, _⟩ => ⟨S512x2048, .bf16⟩
  | .local _ .vmem, ⟨1, _⟩ => ⟨S512x2048, .bf16⟩
  | .local _ .vmem, ⟨2, _⟩ => ⟨S1x2048x1792, .fp8e4m3⟩
  | .local _ .vmem, ⟨3, _⟩ => ⟨S1x2048x1792, .fp8e4m3⟩
  | .local _ .vmem, ⟨4, _⟩ => ⟨S1x1x1792, .f32⟩
  | .local _ .vmem, ⟨5, _⟩ => ⟨S1x1x1792, .f32⟩
  | .local _ .vmem, ⟨6, _⟩ => ⟨S512x1792, .bf16⟩
  | .local _ .vmem, ⟨7, _⟩ => ⟨S512x1792, .bf16⟩
  | .local _ .smem, ⟨0, _⟩ => ⟨S51, .i32⟩
  | .local _ .smem, ⟨1, _⟩ => ⟨S51, .i32⟩
  | .local _ .smem, ⟨2, _⟩ => ⟨S51, .i32⟩
  | .local _ .smem, ⟨3, _⟩ => ⟨S51, .i32⟩
  | .local _ .smem, ⟨4, _⟩ => ⟨S4, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_6 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_9 : Ref sig .tc := ⟨.hbm, 86, rfl⟩
abbrev main_v34 : Ref sig .tc := ⟨.hbm, 87, rfl⟩
abbrev main_v35 : Ref sig .tc := ⟨.hbm, 88, rfl⟩
abbrev main_c_10 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_c_11 : Ref sig .tc := ⟨.hbm, 95, rfl⟩
abbrev main_v41 : Ref sig .tc := ⟨.hbm, 96, rfl⟩
abbrev main_v42 : Ref sig .tc := ⟨.hbm, 97, rfl⟩
abbrev main_c_12 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_13 : Ref sig .tc := ⟨.hbm, 105, rfl⟩
abbrev main_v50 : Ref sig .tc := ⟨.hbm, 106, rfl⟩
abbrev main_v51 : Ref sig .tc := ⟨.hbm, 107, rfl⟩
abbrev main_c_14 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_c_15 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_c_16 : Ref sig .tc := ⟨.hbm, 118, rfl⟩
abbrev main_c_17 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_c_18 : Ref sig .tc := ⟨.hbm, 125, rfl⟩
abbrev main_v61 : Ref sig .tc := ⟨.hbm, 126, rfl⟩
abbrev main_v62 : Ref sig .tc := ⟨.hbm, 127, rfl⟩
abbrev main_c_19 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_c_20 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_c_21 : Ref sig .tc := ⟨.hbm, 138, rfl⟩
abbrev main_c_22 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v72 : Ref sig .tc := ⟨.hbm, 145, rfl⟩
abbrev main_v73 : Ref sig .tc := ⟨.hbm, 146, rfl⟩
abbrev main_v49 : Ref sig .tc := ⟨.smem, 0, rfl⟩
abbrev main_v25 : Ref sig .tc := ⟨.smem, 1, rfl⟩
abbrev main_v60 : Ref sig .tc := ⟨.smem, 2, rfl⟩
abbrev main_v71 : Ref sig .tc := ⟨.smem, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![51], ![false]⟩

abbrev pre0 : Pipeline.Prefetch sig := ⟨4, ![main_v49.idx, main_v25.idx, main_v60.idx, main_v71.idx], fun | 0 => main_v49.names | 1 => main_v25.names | 2 => main_v60.names | 3 => main_v71.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 1 → Nat :=
  let v2 : Index := Scalar.indexCast v1
  ![v2.toNat]

def k0_chk1 (v1 : BitVec 32) : Prop :=
  (∀ a, (k0_off2 v1) a + S1.size a ≤ S4.size a)
theorem k0_off2_inb : ∀ (v1 : BitVec 32) (k0_hw1 : k0_chk1 v1), ∀ a, (k0_off2 v1) a + S1.size a ≤ S4.size a := fun v1 k0_hw1 => k0_hw1

def k0_off3 (i : grid0.Coords) : Fin 1 → Nat :=
  let arg0 : BitVec 32 := BitVec.ofNat 32 (i 0).val
  let v23 : Index := Scalar.indexCast arg0
  ![v23.toNat]
def k0_cond1 (v24 : BitVec 32) (v26 : BitVec 32) : BitVec 1 :=
  let c0_i32 : BitVec 32 := 0#32
  let v27 : BitVec 1 := Scalar.cmpi .sle v24 c0_i32
  let c512_i32 : BitVec 32 := 512#32
  let v28 : BitVec 1 := Scalar.cmpi .sge v26 c512_i32
  let v29 : BitVec 1 := Scalar.andi v27 v28
  let v30 : BitVec 32 := Scalar.extui v29
  let c0_i32_9 : BitVec 32 := 0#32
  let v31 : BitVec 1 := Scalar.cmpi .ne v30 c0_i32_9
  v31

def k0_cond2 (v24 : BitVec 32) (v26 : BitVec 32) : BitVec 1 :=
  let c0_i32 : BitVec 32 := 0#32
  let v27 : BitVec 1 := Scalar.cmpi .sle v24 c0_i32
  let c512_i32 : BitVec 32 := 512#32
  let v28 : BitVec 1 := Scalar.cmpi .sge v26 c512_i32
  let v29 : BitVec 1 := Scalar.andi v27 v28
  let v_true : BitVec 1 := 1#1
  let v32 : BitVec 1 := Scalar.xori v29 v_true
  let v33 : BitVec 32 := Scalar.extui v32
  let c0_i32_10 : BitVec 32 := 0#32
  let v34 : BitVec 1 := Scalar.cmpi .ne v33 c0_i32_10
  v34

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24576x2048 : Shape := ⟨2, ![24576, 2048]⟩
abbrev S4 : Shape := ⟨1, ![4]⟩
abbrev S4x2048x1792 : Shape := ⟨3, ![4, 2048, 1792]⟩
abbrev S4x1792 : Shape := ⟨2, ![4, 1792]⟩
abbrev S1 : Shape := ⟨1, ![1]⟩
abbrev S3 : Shape := ⟨1, ![3]⟩
abbrev S_ : Shape := ⟨0, ![]⟩
abbrev S24576 : Shape := ⟨1, ![24576]⟩
abbrev S4x1 : Shape := ⟨2, ![4, 1]⟩
abbrev S24576x1 : Shape := ⟨2, ![24576, 1]⟩
abbrev S1x1 : Shape := ⟨2, ![1, 1]⟩
abbrev S24576x1792 : Shape := ⟨2, ![24576, 1792]⟩
abbrev S1x2048x1792 : Shape := ⟨3, ![1, 2048, 1792]⟩
abbrev S2048x1792 : Shape := ⟨2, ![2048, 1792]⟩

abbrev nBuf : Space → Nat
  | .hbm => 78
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S4, .i32⟩
  | .hbm, ⟨2, _⟩ => ⟨S4, .f32⟩
  | .hbm, ⟨3, _⟩ => ⟨S4x2048x1792, .fp8e4m3⟩
  | .hbm, ⟨4, _⟩ => ⟨S4x1792, .f32⟩
  | .hbm, ⟨5, _⟩ => ⟨S4, .i32⟩
  | .hbm, ⟨6, _⟩ => ⟨S1, .i32⟩
  | .hbm, ⟨7, _⟩ => ⟨S3, .i32⟩
  | .hbm, ⟨8, _⟩ => ⟨S4, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S4, .i32⟩
  | .hbm, ⟨13, _⟩ => ⟨S_, .i32⟩
  | .hbm, ⟨14, _⟩ => ⟨S_, .i32⟩
  | .hbm, ⟨15, _⟩ => ⟨S4, .i32⟩
  | .hbm, ⟨16, _⟩ => ⟨S_, .i32⟩
  | .hbm, ⟨17, _⟩ => ⟨S24576, .i32⟩
  | .hbm, ⟨18, _⟩ => ⟨S_, .i32⟩
  | .hbm, ⟨19, _⟩ => ⟨S4, .i32⟩
  | .hbm, ⟨20, _⟩ => ⟨S4, .i1⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4, .i32⟩
  | .hbm, ⟨25, _⟩ => ⟨S4x1, .i32⟩
  | .hbm, ⟨26, _⟩ => ⟨S_, .i32⟩
  | .hbm, ⟨27, _⟩ => ⟨S4, .i32⟩
  | .hbm, ⟨28, _⟩ => ⟨S24576, .i32⟩
  | .hbm, ⟨29, _⟩ => ⟨S_, .i32⟩
  | .hbm, ⟨30, _⟩ => ⟨S_, .i32⟩
  | .hbm, ⟨31, _⟩ => ⟨S24576, .i32⟩
  | .hbm, ⟨32, _⟩ => ⟨S_, .i32⟩
  | .hbm, ⟨33, _⟩ => ⟨S24576, .i32⟩
  | .hbm, ⟨34, _⟩ => ⟨S24576, .i32⟩
  | .hbm, ⟨35, _⟩ => ⟨S_, .i32⟩
  | .hbm, ⟨36, _⟩ => ⟨S24576, .i32⟩
  | .hbm, ⟨37, _⟩ => ⟨S24576, .i1⟩
  | .hbm, ⟨38, _⟩ => ⟨S_, .i32⟩
  | .hbm, ⟨39, _⟩ => ⟨S24576, .i32⟩
  | .hbm, ⟨40, _⟩ => ⟨S24576, .i32⟩
  | .hbm, ⟨41, _⟩ => ⟨S24576, .i32⟩
  | .hbm, ⟨42, _⟩ => ⟨S24576x1, .i32⟩
  | .hbm, ⟨43, _⟩ => ⟨S1, .i32⟩
  | .hbm, ⟨44, _⟩ => ⟨S_, .i32⟩
  | .hbm, ⟨45, _⟩ => ⟨S24576x1, .i32⟩
  | .hbm, ⟨46, _⟩ => ⟨S24576x1, .i1⟩
  | .hbm, ⟨47, _⟩ => ⟨S1x1, .i32⟩
  | .hbm, ⟨48, _⟩ => ⟨S24576x1, .i32⟩
  | .hbm, ⟨49, _⟩ => ⟨S24576x1, .i1⟩
  | .hbm, ⟨50, _⟩ => ⟨S24576x1, .i1⟩
  | .hbm, ⟨51, _⟩ => ⟨S_, .i1⟩
  | .hbm, ⟨52, _⟩ => ⟨S24576, .i1⟩
  | .hbm, ⟨53, _⟩ => ⟨S24576, .i32⟩
  | .hbm, ⟨54, _⟩ => ⟨S_, .i32⟩
  | .hbm, ⟨55, _⟩ => ⟨S24576, .i32⟩
  | .hbm, ⟨56, _⟩ => ⟨S24576, .i32⟩
  | .hbm, ⟨57, _⟩ => ⟨S_, .i32⟩
  | .hbm, ⟨58, _⟩ => ⟨S24576, .i32⟩
  | .hbm, ⟨59, _⟩ => ⟨S24576, .i1⟩
  | .hbm, ⟨60, _⟩ => ⟨S_, .i32⟩
  | .hbm, ⟨61, _⟩ => ⟨S24576, .i32⟩
  | .hbm, ⟨62, _⟩ => ⟨S24576, .i32⟩
  | .hbm, ⟨63, _⟩ => ⟨S24576, .i32⟩
  | .hbm, ⟨64, _⟩ => ⟨S24576x1, .i32⟩
  | .hbm, ⟨65, _⟩ => ⟨S24576, .f32⟩
  | .hbm, ⟨66, _⟩ => ⟨S24576x1, .i32⟩
  | .hbm, ⟨67, _⟩ => ⟨S24576x1, .f32⟩
  | .hbm, ⟨68, _⟩ => ⟨S_, .i32⟩
  | .hbm, ⟨69, _⟩ => ⟨S24576, .i32⟩
  | .hbm, ⟨70, _⟩ => ⟨S24576, .i1⟩
  | .hbm, ⟨71, _⟩ => ⟨S_, .i32⟩
  | .hbm, ⟨72, _⟩ => ⟨S24576, .i32⟩
  | .hbm, ⟨73, _⟩ => ⟨S24576, .i32⟩
  | .hbm, ⟨74, _⟩ => ⟨S24576, .i32⟩
  | .hbm, ⟨75, _⟩ => ⟨S24576x1, .i32⟩
  | .hbm, ⟨76, _⟩ => ⟨S24576x1792, .f32⟩
  | .hbm, ⟨77, _⟩ => ⟨S24576x1792, .bf16⟩
  | .local _ .vmem, ⟨0, _⟩ => ⟨S24576x1, .i32⟩
  | .local _ .vmem, ⟨1, _⟩ => ⟨S24576x1, .f32⟩
  | .local _ .vmem, ⟨2, _⟩ => ⟨S24576x1792, .f32⟩
  | .local _ .vmem, ⟨3, _⟩ => ⟨S24576x2048, .bf16⟩
  | .local _ .vmem, ⟨4, _⟩ => ⟨S4x2048x1792, .fp8e4m3⟩
  | .local _ .vmem, ⟨5, _⟩ => ⟨S24576x1792, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_c_6 : Ref sig .tc := ⟨.hbm, 57, rfl⟩
abbrev main_v18 : Ref sig .tc := ⟨.hbm, 58, rfl⟩
abbrev main_v19 : Ref sig .tc := ⟨.hbm, 59, rfl⟩
abbrev main_c_7 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_c_8 : Ref sig .tc := ⟨.hbm, 68, rfl⟩
abbrev main_v27 : Ref sig .tc := ⟨.hbm, 69, rfl⟩
abbrev main_v28 : Ref sig .tc := ⟨.hbm, 70, rfl⟩
abbrev main_c_9 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x1792 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Visits.lean ====
/-
  The arithmetic of the visits, on natural numbers: four consecutive groups of rows, cut into tiles of 512 rows, make a list of visits;
  each visit works on one tile for one group.
-/
module

public import Mathlib.Data.Nat.Count
public import Mathlib.Tactic.IntervalCases

@[expose] public section

namespace Cert.Visits

variable (g : ℕ → ℕ)

/-- The row after the last row of group `k`. -/
def endN (k : ℕ) : ℕ := ((List.range (k + 1)).map g).sum
/-- The first row of group `k`. -/
def startN (k : ℕ) : ℕ := endN g k - g k
/-- The tile that holds the first row of group `k`. -/
def firstN (k : ℕ) : ℕ := startN g k / 512
/-- How many tiles group `k` touches. -/
def cntN (k : ℕ) : ℕ := if 0 < g k then (endN g k - 1) / 512 - firstN g k + 1 else 0
/-- The number after the last visit of group `k`. -/
def vendN (k : ℕ) : ℕ := ((List.range (k + 1)).map (cntN g)).sum
/-- The visit that step `v` makes: its own, or the last one again. -/
def vvN (v : ℕ) : ℕ := min v (vendN g 3 - 1)
/-- The group step `v` works for. -/
def eN (v : ℕ) : ℕ := Nat.count (fun q => vendN g q ≤ vvN g v) 4
/-- The tile step `v` works on. -/
def tileN (v : ℕ) : ℕ := firstN g (eN g v) + vvN g v - (vendN g (eN g v) - cntN g (eN g v))
/-- The first row of the tile that belongs to the group. -/
def loN (v : ℕ) : ℕ := min (startN g (eN g v) - 512 * tileN g v) 512
/-- The row of the tile after the last one that belongs to the group. -/
def hiN (v : ℕ) : ℕ := min (endN g (eN g v) - 512 * tileN g v) 512

/-- The end of group 0 as a plain sum. -/
theorem endN_0 : endN g 0 = g 0 := by simp [endN]
/-- The end of group 1 as a plain sum. -/
theorem endN_1 : endN g 1 = g 0 + g 1 := by simp [endN, List.range_succ]
/-- The end of group 2 as a plain sum. -/
theorem endN_2 : endN g 2 = g 0 + g 1 + g 2 := by simp [endN, List.range_succ]; omega
/-- The end of group 3 as a plain sum. -/
theorem endN_3 : endN g 3 = g 0 + g 1 + g 2 + g 3 := by simp [endN, List.range_succ]; omega
/-- The visits up to group 0 as a plain sum. -/
theorem vendN_0 : vendN g 0 = cntN g 0 := by simp [vendN]
/-- The visits up to group 1 as a plain sum. -/
theorem vendN_1 : vendN g 1 = cntN g 0 + cntN g 1 := by simp [vendN, List.range_succ]
/-- The visits up to group 2 as a plain sum. -/
theorem vendN_2 : vendN g 2 = cntN g 0 + cntN g 1 + cntN g 2 := by simp [vendN, List.range_succ]; omega
/-- The visits up to group 3 as a plain sum. -/
theorem vendN_3 : vendN g 3 = cntN g 0 + cntN g 1 + cntN g 2 + cntN g 3 := by simp [vendN, List.range_succ]; omega

/-- A group's first row and its size make its end. -/
theorem start_add (k : ℕ) : startN g k + g k = endN g k := by
  unfold startN endN
  rw [List.range_succ, List.map_append, List.sum_append]
  simp

/-- A group's visits end with its count. -/
theorem cnt_le_vend (k : ℕ) : cntN g k ≤ vendN g k := by
  unfold vendN
  rw [List.range_succ, List.map_append, List.sum_append]
  simp

/-- A group that holds a row touches at least one tile, and its last row lies in its last tile. -/
theorem cnt_pos {k : ℕ} (h : 0 < g k) : firstN g k + cntN g k = (endN g k - 1) / 512 + 1 := by
  have := start_add g k
  unfold cntN firstN
  rw [if_pos h]
  have : startN g k / 512 ≤ (endN g k - 1) / 512 := Nat.div_le_div_right (by omega)
  omega

/-- An empty group has no visit. -/
theorem cnt_zero {k : ℕ} (h : g k = 0) : cntN g k = 0 := by
  unfold cntN; rw [if_neg (by omega)]

/-- A group has a visit if and only if it has a row. -/
theorem cnt_pos_iff (k : ℕ) : 0 < cntN g k ↔ 0 < g k := by
  unfold cntN; split <;> omega

/-- The groups' rows follow one another. -/
theorem end_le {k : ℕ} (hk : k < 4) (hs : endN g 3 = 24576) : endN g k ≤ 24576 := by
  have := endN_0 g; have := endN_1 g; have := endN_2 g; have := endN_3 g
  interval_cases k <;> omega

/-- There is at least one visit. -/
theorem vend_pos (hs : endN g 3 = 24576) : 0 < vendN g 3 := by
  have := endN_3 g; have := vendN_3 g
  have := cnt_pos_iff g 0; have := cnt_pos_iff g 1; have := cnt_pos_iff g 2; have := cnt_pos_iff g 3
  omega

/-- There are at most 51 visits: one a tile, and one more for each group that begins inside a tile. -/
theorem vend_le (hs : endN g 3 = 24576) : vendN g 3 ≤ 51 := by
  have e0 := endN_0 g; have e1 := endN_1 g; have e2 := endN_2 g; have e3 := endN_3 g; have v3 := vendN_3 g
  have s0 := start_add g 0; have s1 := start_add g 1; have s2 := start_add g 2; have s3 := start_add g 3
  have key : ∀ k, cntN g k = if 0 < g k then (endN g k - 1) / 512 - startN g k / 512 + 1 else 0 := fun k => rfl
  have k0 := key 0; have k1 := key 1; have k2 := key 2; have k3 := key 3
  split_ifs at k0 k1 k2 k3 <;> omega

/-- The group of a step is the one whose visits hold the step's visit. -/
theorem expert (hs : endN g 3 = 24576) (v : ℕ) :
    eN g v < 4 ∧ vendN g (eN g v) - cntN g (eN g v) ≤ vvN g v ∧ vvN g v < vendN g (eN g v) := by
  have hp := vend_pos g hs
  have v0 := vendN_0 g; have v1 := vendN_1 g; have v2 := vendN_2 g; have v3 := vendN_3 g
  have hv : vvN g v < vendN g 3 := by unfold vvN; omega
  have he : eN g v = (if vendN g 0 ≤ vvN g v then 1 else 0) + (if vendN g 1 ≤ vvN g v then 1 else 0)
      + (if vendN g 2 ≤ vvN g v then 1 else 0) + (if vendN g 3 ≤ vvN g v then 1 else 0) := by
    unfold eN
    simp only [Nat.count_succ, Nat.count_zero, Nat.zero_add]
  generalize eN g v = e at he ⊢
  split_ifs at he <;> simp only [Nat.add_zero, Nat.reduceAdd] at he <;> first | (exfalso; omega) | skip
  all_goals (subst he; refine ⟨by omega, ?_, ?_⟩ <;> omega)

/-- The group of a step holds a row. -/
theorem expert_pos (hs : endN g 3 = 24576) (v : ℕ) : 0 < g (eN g v) := by
  obtain ⟨_, h1, h2⟩ := expert g hs v
  rw [← cnt_pos_iff]
  omega

/-- The tile of a step: its group's first row lies at or before the tile's end, its last row at or after the tile's begin. -/
theorem tile_bounds (hs : endN g 3 = 24576) (v : ℕ) :
    tileN g v < 48 ∧ startN g (eN g v) < 512 * (tileN g v + 1) ∧ 512 * tileN g v < endN g (eN g v) := by
  obtain ⟨h0, h1, h2⟩ := expert g hs v
  have hp := expert_pos g hs v
  have hc := cnt_pos g hp
  have hl := end_le g h0 hs
  have hcv := cnt_le_vend g (eN g v)
  have hst := start_add g (eN g v)
  have hf : firstN g (eN g v) = startN g (eN g v) / 512 := rfl
  have ht : tileN g v = firstN g (eN g v) + vvN g v - (vendN g (eN g v) - cntN g (eN g v)) := rfl
  refine ⟨by omega, by omega, by omega⟩

/-- The row range of a visit is not empty and lies within the tile. -/
theorem lo_lt_hi (hs : endN g 3 = 24576) (v : ℕ) : loN g v < hiN g v ∧ hiN g v ≤ 512 := by
  obtain ⟨h0, h1, h2⟩ := tile_bounds g hs v
  have hst := start_add g (eN g v)
  have hp := expert_pos g hs v
  unfold loN hiN
  omega

/-- A row of the tile between the two bounds belongs to the step's group. -/
theorem row_mem (hs : endN g 3 = 24576) (v r : ℕ) (h0 : loN g v ≤ r) (h1 : r < hiN g v) :
    startN g (eN g v) ≤ 512 * tileN g v + r ∧ 512 * tileN g v + r < endN g (eN g v) := by
  unfold loN at h0; unfold hiN at h1
  omega

/-- The first step begins at row 0. -/
theorem first_step (hs : endN g 3 = 24576) : tileN g 0 = 0 ∧ loN g 0 = 0 := by
  obtain ⟨h0, h1, h2⟩ := expert g hs 0
  have e0 := endN_0 g; have e1 := endN_1 g; have e2 := endN_2 g; have e3 := endN_3 g
  have v0 := vendN_0 g; have v1 := vendN_1 g; have v2 := vendN_2 g; have v3 := vendN_3 g
  have s0 := start_add g 0; have s1 := start_add g 1; have s2 := start_add g 2; have s3 := start_add g 3
  have hc0 := cnt_pos_iff g 0; have hc1 := cnt_pos_iff g 1; have hc2 := cnt_pos_iff g 2; have hc3 := cnt_pos_iff g 3
  have hz : vvN g 0 = 0 := by unfold vvN; omega
  have hs0 : startN g (eN g 0) = 0 := by
    generalize eN g 0 = e at *
    interval_cases e <;> omega
  have hf : firstN g (eN g 0) = 0 := by unfold firstN; omega
  unfold loN tileN
  omega

/-- The next visit is of the same group, or of the next group that holds a row. -/
theorem next_expert (hs : endN g 3 = 24576) (v : ℕ) (h : vvN g (v + 1) = vvN g v + 1) :
    eN g (v + 1) = eN g v ∨ (vendN g (eN g v) = vvN g v + 1 ∧ vendN g (eN g (v + 1)) - cntN g (eN g (v + 1)) = vvN g v + 1
      ∧ startN g (eN g (v + 1)) = endN g (eN g v)) := by
  obtain ⟨h0, h1, h2⟩ := expert g hs v
  obtain ⟨h0', h1', h2'⟩ := expert g hs (v + 1)
  have e0 := endN_0 g; have e1 := endN_1 g; have e2 := endN_2 g; have e3 := endN_3 g
  have v0 := vendN_0 g; have v1 := vendN_1 g; have v2 := vendN_2 g; have v3 := vendN_3 g
  have s0 := start_add g 0; have s1 := start_add g 1; have s2 := start_add g 2; have s3 := start_add g 3
  have hc0 := cnt_pos_iff g 0; have hc1 := cnt_pos_iff g 1; have hc2 := cnt_pos_iff g 2; have hc3 := cnt_pos_iff g 3
  generalize eN g (v + 1) = e' at *
  generalize eN g v = e at *
  interval_cases e <;> interval_cases e' <;> omega

/-- From one step to the next: the same visit again; or the same tile, the rows going on where they stopped; or the next tile, the tile
    left complete and the new one begun at its first row. -/
theorem next_step (hs : endN g 3 = 24576) (v : ℕ) :
    (vvN g (v + 1) = vvN g v)
      ∨ (tileN g (v + 1) = tileN g v ∧ loN g (v + 1) = hiN g v)
      ∨ (tileN g (v + 1) = tileN g v + 1 ∧ hiN g v = 512 ∧ loN g (v + 1) = 0) := by
  have hv : vvN g (v + 1) = vvN g v ∨ vvN g (v + 1) = vvN g v + 1 := by unfold vvN; omega
  rcases hv with hv | hv
  · exact .inl hv
  · right
    obtain ⟨h0, h1, h2⟩ := expert g hs v
    obtain ⟨h0', h1', h2'⟩ := expert g hs (v + 1)
    have hp := expert_pos g hs v
    have hc := cnt_pos g hp
    have hcv := cnt_le_vend g (eN g v)
    have hst := start_add g (eN g v)
    have hf : firstN g (eN g v) = startN g (eN g v) / 512 := rfl
    have ht : tileN g v = firstN g (eN g v) + vvN g v - (vendN g (eN g v) - cntN g (eN g v)) := rfl
    have ht' : tileN g (v + 1) = firstN g (eN g (v + 1)) + vvN g (v + 1) - (vendN g (eN g (v + 1)) - cntN g (eN g (v + 1))) := rfl
    have hlo : loN g (v + 1) = min (startN g (eN g (v + 1)) - 512 * tileN g (v + 1)) 512 := rfl
    have hhi : hiN g v = min (endN g (eN g v) - 512 * tileN g v) 512 := rfl
    rcases next_expert g hs v hv with he | ⟨ha, hb, hd⟩
    · rw [he] at ht' hlo h1' h2'
      right
      omega
    · have hf' : firstN g (eN g (v + 1)) = startN g (eN g (v + 1)) / 512 := rfl
      have ht2 : tileN g (v + 1) = endN g (eN g v) / 512 := by omega
      have ht1 : tileN g v = (endN g (eN g v) - 1) / 512 := by omega
      omega

/-- A step that makes the same visit again works on the same rows. -/
theorem same_step {v v' : ℕ} (h : vvN g v = vvN g v') :
    eN g v = eN g v' ∧ tileN g v = tileN g v' ∧ loN g v = loN g v' ∧ hiN g v = hiN g v' := by
  have he : eN g v = eN g v' := by unfold eN; rw [h]
  have ht : tileN g v = tileN g v' := by unfold tileN; rw [h, he]
  refine ⟨he, ht, ?_, ?_⟩
  · unfold loN; rw [he, ht]
  · unfold hiN; rw [he, ht]

/-- The last step completes the last tile. -/
theorem last_step (hs : endN g 3 = 24576) : tileN g 50 = 47 ∧ hiN g 50 = 512 := by
  obtain ⟨h0, h1, h2⟩ := expert g hs 50
  have hle := vend_le g hs
  have e0 := endN_0 g; have e1 := endN_1 g; have e2 := endN_2 g; have e3 := endN_3 g
  have v0 := vendN_0 g; have v1 := vendN_1 g; have v2 := vendN_2 g; have v3 := vendN_3 g
  have hc0 := cnt_pos_iff g 0; have hc1 := cnt_pos_iff g 1; have hc2 := cnt_pos_iff g 2; have hc3 := cnt_pos_iff g 3
  have hp := expert_pos g hs 50
  have hc := cnt_pos g hp
  have hcv := cnt_le_vend g (eN g 50)
  have hz : vvN g 50 = vendN g 3 - 1 := by unfold vvN; omega
  have hend : endN g (eN g 50) = 24576 ∧ vendN g (eN g 50) = vendN g 3 := by
    generalize eN g 50 = e at *
    interval_cases e <;> omega
  have ht : tileN g 50 = firstN g (eN g 50) + vvN g 50 - (vendN g (eN g 50) - cntN g (eN g 50)) := rfl
  have hhi : hiN g 50 = min (endN g (eN g 50) - 512 * tileN g 50) 512 := rfl
  omega

end Cert.Visits
-- ==== Proof.Tables.lean ====
/-
  The four visit tables as words: what the host operations before the kernel compute from the group sizes, written as functions of the
  group sizes alone, and each entry as the word of a natural number.
-/
module

public import proofs.«01_k».proof.Proof.Gen.KernelIdeal
public import proofs.«01_k».proof.Proof.Visits
public import Idealize.ShloMosaic.Lib.Routing.OpsSearch
public import Idealize.ShloMosaic.Lib.Routing.OpsPair

@[expose] public section

noncomputable section

namespace Cert.Tables

open Idealize.ShloMosaic Idealize.ShloMosaic.ValueIdx Idealize.ShloMosaic.WordCmp Idealize.ShloMosaic.Routing
open Cert.KernelIdeal Cert.KernelIdeal.Gen
open Cert.Visits

/-! ## The host operations -/

/-- A scalar word at every group. -/
def fill4 (w : BitVec 32) : IVec S4 32 := broadcastInDim S4 ![] bcast_S_S4 (constantI S_ 32 w)
/-- A scalar word at every step. -/
def fill51 (w : BitVec 32) : IVec S51 32 := broadcastInDim S51 ![] bcast_S_S51 (constantI S_ 32 w)
/-- The running sum of a table over the groups. -/
def csum (x : IVec S4 32) : IVec S4 32 :=
  Host.reduceWindow IntOp.addi ![4] ![1] ![3] ![0] x (broadcastInDim S_ ![] bcast_S_S_ (constantI S_ 32 0#32)) reduceWindows_S4_S4_w4s1p3_0 h_S_
/-- Each group's end. -/
def endW (g : IVec S4 32) : IVec S4 32 := csum g
/-- Each group's first row. -/
def startW (g : IVec S4 32) : IVec S4 32 := subi (endW g) g
/-- Each group's first tile. -/
def firstW (g : IVec S4 32) : IVec S4 32 := pyDiv bcast_S_S4 (startW g) (constantI S_ 32 512#32)
/-- Each group's number of visits. -/
def cntW (g : IVec S4 32) : IVec S4 32 :=
  select (cmpi .sgt g (fill4 0#32))
    (addi (subi (pyDiv bcast_S_S4 (subi (endW g) (fill4 1#32)) (constantI S_ 32 512#32)) (firstW g)) (fill4 1#32)) (fill4 0#32)
/-- The end of each group's visits. -/
def vendW (g : IVec S4 32) : IVec S4 32 := csum (cntW g)
/-- Each step's visit. -/
def vvW (g : IVec S4 32) : IVec S51 32 :=
  minsi (iotaInDim S51 32 0) (broadcastInDim S51 ![] bcast_S_S51
    (subi (shapeCast S_ (extractStridedSlice S1 ![3] (vendW g) slices_S4_S1_3) shapeCasts_S1_S_) (constantI S_ 32 1#32)))
/-- Each step's group. -/
def eW (g : IVec S4 32) : IVec S51 32 :=
  Host.reduce IntOp.addi (extui 32 (cmpi .sge (broadcastInDim S51x4 ![0, 1] bcast_S51x1_S51x4_0_1 (broadcastInDim S51x1 ![0] bcast_S51_S51x1_0 (vvW g)))
    (broadcastInDim S51x4 ![0, 1] bcast_S1x4_S51x4_0_1 (broadcastInDim S1x4 ![1] bcast_S4_S1x4_1 (vendW g)))) natLt_1_32) (constantI S_ 32 0#32) reducesTo_S51x4_S51_d1 h_S_
/-- A table of the groups read at each step's group. -/
def pick (x : IVec S4 32) (e : IVec S51 32) : IVec S51 32 :=
  Host.gather gather_S4_S51x1_S51_n_0_n_n_0_1_1 x
    (broadcastInDim S51x1 ![0] bcast_S51_S51x1_0 (select (cmpi .slt e (fill51 0#32)) (addi e (fill51 4#32)) e))
/-- Each step's tile. -/
def tileW (g : IVec S4 32) : IVec S51 32 :=
  subi (addi (pick (firstW g) (eW g)) (vvW g)) (subi (pick (vendW g) (eW g)) (pick (cntW g) (eW g)))
/-- A row number clipped into a tile. -/
def clipW (x : IVec S51 32) : IVec S51 32 := minsi (fill51 512#32) (maxsi (fill51 0#32) x)
/-- Each step's first row in its tile. -/
def loW (g : IVec S4 32) : IVec S51 32 := clipW (subi (pick (startW g) (eW g)) (muli (tileW g) (fill51 512#32)))
/-- Each step's end in its tile. -/
def hiW (g : IVec S4 32) : IVec S51 32 := clipW (subi (pick (endW g) (eW g)) (muli (tileW g) (fill51 512#32)))

/-! ## Their entries as natural numbers -/

/-- The group sizes as natural numbers. -/
def sizes (g : IVec S4 32) (k : ℕ) : ℕ := if h : k < 4 then (g (ix1 ⟨k, h⟩)).toNat else 0

/-- The group sizes are words of natural numbers that add up to the number of rows. -/
structure Ragged (g : IVec S4 32) : Prop where
  total : endN (sizes g) 3 = 24576

variable {g : IVec S4 32}

/-- A size word is the word of its number. -/
theorem g_ap (k : Fin 4) : g (ix1 k) = BitVec.ofNat 32 (sizes g k.val) := by
  unfold sizes
  rw [dif_pos k.isLt]
  simp

/-- A constant of four words at an index. -/
theorem fill4_ap (w : BitVec 32) (i : S4.Idx) : fill4 w i = w := rfl
/-- A constant of 51 words at an index. -/
theorem fill51_ap (w : BitVec 32) (i : S51.Idx) : fill51 w i = w := rfl

/-- The running sum of four words, as numbers. -/
theorem csum_ap (x : IVec S4 32) (f : ℕ → ℕ) (hx : ∀ i : Fin 4, x (ix1 i) = BitVec.ofNat 32 (f i.val)) (j : Fin 4) :
    csum x (ix1 j) = BitVec.ofNat 32 ((List.range (j.val + 1)).map f).sum :=
  cumsum1 (N := 4) (Nm1 := 3) rfl x f hx _ rfl reduceWindows_S4_S4_w4s1p3_0 h_S_ j

/-- The end words. -/
theorem endW_ap (k : Fin 4) : endW g (ix1 k) = BitVec.ofNat 32 (endN (sizes g) k.val) := csum_ap g (sizes g) g_ap k

/-- The start words. -/
theorem startW_ap (k : Fin 4) : startW g (ix1 k) = BitVec.ofNat 32 (startN (sizes g) k.val) := by
  have h := start_add (sizes g) k.val
  unfold startW
  rw [subi_ap, endW_ap, g_ap (g := g), ofNat32_sub (by omega)]
  rfl

/-- Every group starts within the rows. -/
theorem start_lt (hg : Ragged g) (k : Fin 4) : startN (sizes g) k.val ≤ 24576 := by
  have h := start_add (sizes g) k.val
  have := end_le (sizes g) k.isLt hg.total
  omega

/-- No group is larger than the rows. -/
theorem size_le (hg : Ragged g) (k : Fin 4) : sizes g k.val ≤ 24576 := by
  have h := start_add (sizes g) k.val
  have := end_le (sizes g) k.isLt hg.total
  omega

/-- The words of the first tiles. -/
theorem firstW_ap (hg : Ragged g) (k : Fin 4) : firstW g (ix1 k) = BitVec.ofNat 32 (firstN (sizes g) k.val) := by
  have h := start_lt hg k
  exact pyDiv_ap bcast_S_S4 (startW g) (constantI S_ 32 512#32) (ix1 k) (startW_ap k) rfl (by omega) (by decide) (by decide)

/-- The words of the visit counts. -/
theorem cntW_ap (hg : Ragged g) (k : Fin 4) : cntW g (ix1 k) = BitVec.ofNat 32 (cntN (sizes g) k.val) := by
  have h := start_lt hg k
  have h1 := size_le hg k
  have h2 := start_add (sizes g) k.val
  have h3 := end_le (sizes g) k.isLt hg.total
  unfold cntW
  rw [select_at, cmpi_at, fill4_ap, g_ap (g := g)]
  unfold cntN
  by_cases hp : 0 < sizes g k.val
  · rw [if_pos hp]
    have hc : IntOp.cmpi .sgt (BitVec.ofNat 32 (sizes g k.val)) 0#32 = 1#1 := by
      show BitVec.ofBool ((BitVec.ofNat 32 0).slt (BitVec.ofNat 32 (sizes g k.val))) = 1#1
      rw [slt_ofNat32 (by decide) (by omega)]
      simp [hp]
    rw [hc]
    show addi (subi (pyDiv bcast_S_S4 (subi (endW g) (fill4 1#32)) (constantI S_ 32 512#32)) (firstW g)) (fill4 1#32) (ix1 k) = _
    have he : subi (endW g) (fill4 1#32) (ix1 k) = BitVec.ofNat 32 (endN (sizes g) k.val - 1) := by
      rw [subi_ap, endW_ap, fill4_ap, show (1#32 : BitVec 32) = BitVec.ofNat 32 1 from rfl, ofNat32_sub (by omega)]
    have hf : startN (sizes g) k.val / 512 ≤ (endN (sizes g) k.val - 1) / 512 := Nat.div_le_div_right (by omega)
    rw [addi_ap, subi_ap, pyDiv_ap bcast_S_S4 _ (constantI S_ 32 512#32) (ix1 k) he rfl (by omega) (by decide) (by decide), firstW_ap hg, fill4_ap,
      ofNat32_sub (by unfold firstN; omega), show (1#32 : BitVec 32) = BitVec.ofNat 32 1 from rfl, ← BitVec.ofNat_add]
  · rw [if_neg hp]
    have hz : sizes g k.val = 0 := by omega
    rw [hz]
    rfl

/-- The running sums of the visit counts. -/
theorem vendW_ap (hg : Ragged g) (k : Fin 4) : vendW g (ix1 k) = BitVec.ofNat 32 (vendN (sizes g) k.val) :=
  csum_ap (cntW g) (cntN (sizes g)) (cntW_ap hg) k

/-- There are at most 51 visits. -/
theorem vend_le' (hg : Ragged g) (k : Fin 4) : vendN (sizes g) k.val ≤ 51 := by
  have := vend_le _ hg.total
  have v0 := vendN_0 (sizes g); have v1 := vendN_1 (sizes g); have v2 := vendN_2 (sizes g); have v3 := vendN_3 (sizes g)
  have := k.isLt
  obtain ⟨k, hk⟩ := k
  simp only at *
  interval_cases k <;> omega

/-- The capped visit numbers. -/
theorem vvW_ap (hg : Ragged g) (v : Fin 51) : vvW g (ix1 v) = BitVec.ofNat 32 (vvN (sizes g) v.val) := by
  have h1 := vend_le _ hg.total
  have h2 := vend_pos _ hg.total
  have hx : shapeCast S_ (extractStridedSlice S1 ![3] (vendW g) slices_S4_S1_3) shapeCasts_S1_S_ ix0 = BitVec.ofNat 32 (vendN (sizes g) 3) := by
    refine (shapeCast_apply _ _ ix0 (ix1 (0 : Fin 1)) (by decide)).trans ?_
    exact (slice1 3 (vendW g) slices_S4_S1_3 (0 : Fin 1) (by decide)).trans (vendW_ap hg 3)
  unfold vvW
  rw [show ∀ x y : IVec S51 32, minsi x y (ix1 v) = IntOp.minsi (x (ix1 v)) (y (ix1 v)) from fun _ _ => rfl, iota1_ap, bc0, subi_ap, hx, constantI_at,
    show (1#32 : BitVec 32) = BitVec.ofNat 32 1 from rfl, ofNat32_sub h2]
  unfold IntOp.minsi vvN
  have := v.isLt
  rw [slt_ofNat32 (by omega) (by omega)]
  by_cases h : v.val < vendN (sizes g) 3 - 1
  · rw [if_pos (decide_eq_true h), Nat.min_eq_left (by omega)]
  · rw [if_neg (fun e => h (of_decide_eq_true e)), Nat.min_eq_right (by omega)]

/-- A capped visit number is below 51. -/
theorem vv_lt (hg : Ragged g) (v : ℕ) : vvN (sizes g) v < 51 := by
  have h1 := vend_le _ hg.total
  have h2 := vend_pos _ hg.total
  unfold vvN; omega

/-- The group words of the visits. -/
theorem eW_ap (hg : Ragged g) (v : Fin 51) : eW g (ix1 v) = BitVec.ofNat 32 (eN (sizes g) v.val) := by
  refine reduce_count (n := 51) (m := 4) (by decide) _ natLt_1_32 reducesTo_S51x4_S51_d1 h_S_ v (fun q => vendN (sizes g) q ≤ vvN (sizes g) v.val) fun q => ?_
  have hq := vend_le' hg q
  have hv := vv_lt hg v.val
  rw [cmpi_at, bcRows, bcCols, vvW_ap hg, vendW_ap hg]
  show BitVec.ofBool ((BitVec.ofNat 32 (vendN (sizes g) q.val)).sle (BitVec.ofNat 32 (vvN (sizes g) v.val))) = 1#1 ↔ _
  rw [sle_ofNat32 (by omega) (by omega)]
  by_cases h : vendN (sizes g) q.val ≤ vvN (sizes g) v.val <;> simp [h]

/-- A gather of four words by the group of a visit. -/
theorem pick_ap (hg : Ragged g) (x : IVec S4 32) (f : ℕ → ℕ) (hx : ∀ k : Fin 4, x (ix1 k) = BitVec.ofNat 32 (f k.val)) (v : Fin 51) :
    pick x (eW g) (ix1 v) = BitVec.ofNat 32 (f (eN (sizes g) v.val)) := by
  have he := (expert _ hg.total v.val).1
  unfold pick
  refine (take_ap (N := 4) (n := 51) gather_S4_S51x1_S51_n_0_n_n_0_1_1 rfl rfl rfl rfl x _ v he (by omega) ?_).trans (hx _)
  rw [bcCol, select_at, cmpi_at, fill51_ap, eW_ap hg]
  refine wrap_of_lt (w := 32) _ _ ?_
  rw [BitVec.toNat_ofNat]
  omega

/-- The tile words of the visits. -/
theorem tileW_ap (hg : Ragged g) (v : Fin 51) : tileW g (ix1 v) = BitVec.ofNat 32 (tileN (sizes g) v.val) := by
  obtain ⟨h0, h1, h2⟩ := expert _ hg.total v.val
  have hc := cnt_le_vend (sizes g) (eN (sizes g) v.val)
  unfold tileW
  rw [subi_ap, addi_ap, subi_ap, pick_ap hg _ _ (firstW_ap hg), pick_ap hg _ _ (vendW_ap hg), pick_ap hg _ _ (cntW_ap hg), vvW_ap hg,
    ofNat32_sub hc, ← BitVec.ofNat_add, ofNat32_sub (by omega)]
  rfl

/-- The clip of a difference of two natural numbers: the difference cut at zero below and at 512 above. -/
theorem clip_diff {a b : ℕ} (ha : a < 2 ^ 30) (hb : b < 2 ^ 30) :
    IntOp.minsi 512#32 (IntOp.maxsi 0#32 (BitVec.ofNat 32 a - BitVec.ofNat 32 b)) = BitVec.ofNat 32 (min (a - b) 512) := by
  rcases Nat.lt_or_ge a b with h | h
  · have hz : IntOp.maxsi 0#32 (BitVec.ofNat 32 a - BitVec.ofNat 32 b) = 0#32 := by
      unfold IntOp.maxsi
      have : (BitVec.ofNat 32 a - BitVec.ofNat 32 b).slt 0#32 = true := by
        rw [BitVec.slt_zero_eq_msb, BitVec.msb_eq_true_iff_two_mul_ge, BitVec.toNat_sub, BitVec.toNat_ofNat, BitVec.toNat_ofNat]
        omega
      rw [this]
      simp
    rw [hz, show a - b = 0 by omega]
    rfl
  · rw [ofNat32_sub h]
    have := clip_word (x := a - b) (lo := 0) (hi := 512) (by omega) (by decide) (by decide)
    rw [Nat.max_eq_left (by omega)] at this
    exact this

/-- 512 times a word. -/
theorem mul512 (t : ℕ) : BitVec.ofNat 32 t * 512#32 = BitVec.ofNat 32 (512 * t) := by
  rw [show (512#32 : BitVec 32) = BitVec.ofNat 32 512 from rfl, ← BitVec.ofNat_mul, Nat.mul_comm]

/-- The first-row words of the visits. -/
theorem loW_ap (hg : Ragged g) (v : Fin 51) : loW g (ix1 v) = BitVec.ofNat 32 (loN (sizes g) v.val) := by
  have ht := (tile_bounds _ hg.total v.val).1
  have hs := start_lt hg ⟨_, (expert _ hg.total v.val).1⟩
  show IntOp.minsi 512#32 (IntOp.maxsi 0#32 (pick (startW g) (eW g) (ix1 v) - tileW g (ix1 v) * 512#32)) = _
  rw [pick_ap hg _ _ startW_ap, tileW_ap hg, mul512, clip_diff (by simp only at hs; omega) (by omega)]
  rfl

/-- The end-row words of the visits. -/
theorem hiW_ap (hg : Ragged g) (v : Fin 51) : hiW g (ix1 v) = BitVec.ofNat 32 (hiN (sizes g) v.val) := by
  have ht := (tile_bounds _ hg.total v.val).1
  have hs := end_le (sizes g) (expert _ hg.total v.val).1 hg.total
  show IntOp.minsi 512#32 (IntOp.maxsi 0#32 (pick (endW g) (eW g) (ix1 v) - tileW g (ix1 v) * 512#32)) = _
  rw [pick_ap hg _ _ endW_ap, tileW_ap hg, mul512, clip_diff (by omega) (by omega)]
  rfl

end Cert.Tables
-- ==== Proof.Precondition.lean ====
/-
  The precondition, decoded: where the printed predicate of the group sizes is all ones, the sizes are words of natural numbers that add up to
  the number of rows.
-/
module

public import proofs.«01_k».proof.Proof.Gen.Pre_ragged
public import proofs.«01_k».proof.Proof.Tables

@[expose] public section

namespace Cert.Tables

open Idealize.ShloMosaic Idealize.ShloMosaic.ValueIdx Idealize.ShloMosaic.WordCmp Idealize.ShloMosaic.Routing
open Cert.KernelIdeal Cert.Visits

/-- The precondition makes the sizes ragged: each is between 0 and 24576, and they add up to 24576. -/
theorem ragged_of_fn {F : FTy → Type} [FloatOps F] (x : FVec F S24576x2048 .bf16) (g : IVec S4 32) (s : FVec F S4 .f32) (w : FVec F S4x2048x1792 .fp8e4m3)
    (ws : FVec F S4x1792 .f32) (h : (Cert.Pre_ragged.fn (F := F) x g s w ws).1 = (fun _ => 1#1) ∧ (Cert.Pre_ragged.fn (F := F) x g s w ws).2 = (fun _ => 1#1)) :
    Ragged g := by
  have andi_one (a b : BitVec 1) : IntOp.andi a b = 1#1 ↔ a = 1#1 ∧ b = 1#1 := by revert a b; decide
  have ofBool_one (p : Bool) : (BitVec.ofBool p = 1#1) ↔ p = true := by cases p <;> decide
  have hb : ∀ k : Fin 4, sizes g k.val ≤ 24576 := fun k => by
    have := congrFun h.1 (ix1 k)
    simp only [Cert.Pre_ragged.fn, constantI, broadcastInDim, cmpi, andi, andi_one, IntOp.cmpi, ofBool_one] at this
    have h0 := this.1
    have h1 := this.2
    rw [BitVec.sle, decide_eq_true_eq] at h0 h1
    have e0 : (0#32 : BitVec 32).toInt = 0 := by decide
    have e1 : (24576#32 : BitVec 32).toInt = 24576 := by decide
    rw [e0] at h0
    rw [e1] at h1
    have hl := toNat_lt_of_toInt_nonneg _ h0
    rw [BitVec.toInt_eq_toNat_of_lt (by omega)] at h1
    unfold sizes
    rw [dif_pos k.isLt]
    show (g (ix1 k)).toNat ≤ 24576
    omega
  have hsum := congrFun h.2 ix0
  simp only [Cert.Pre_ragged.fn] at hsum
  have hr := reduce_sum (N := 4) g (sizes g) (g_ap (g := g)) Cert.Pre_ragged.Facts.reducesTo_S4_S_d0 Cert.Pre_ragged.Facts.h_S_
  rw [cmpi_at] at hsum
  have hsum' : IntOp.cmpi .eq (BitVec.ofNat 32 ((List.range 4).map (sizes g)).sum) (BitVec.ofNat 32 24576) = 1#1 := hr ▸ hsum
  have e3 : ((List.range 4).map (sizes g)).sum = endN (sizes g) 3 := rfl
  have hv := endN_3 (sizes g)
  have b0 := hb 0; have b1 := hb 1; have b2 := hb 2; have b3 := hb 3
  have c0 : ((0 : Fin 4).val) = 0 := rfl
  have c1 : ((1 : Fin 4).val) = 1 := rfl
  have c2 : ((2 : Fin 4).val) = 2 := rfl
  have c3 : ((3 : Fin 4).val) = 3 := rfl
  rw [c0] at b0; rw [c1] at b1; rw [c2] at b2; rw [c3] at b3
  rw [e3, cmpi_eq_ofNat (w := 32) (by omega) (by decide), ofBool_one, decide_eq_true_eq] at hsum'
  exact ⟨hsum'⟩

end Cert.Tables
-- ==== Proof.KernelRun.lean ====
/-
  What the kernel's region shares: the contents of every buffer when the region is
  entered, the four visit tables read off them, and the kernel's body run on any staging buffers.
-/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.StableHlo.ReadAt
public import Idealize.ShloMosaic.Lib.Claim

@[expose] public section

-- the staging buffers' extents: the elaborator's structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12]

/-- Every operation of the host line reads and writes buffers of the core. -/
theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub⟩

/-- No operation of the host line leaves a buffer at arbitrary contents. -/
theorem stretches_fresh : (stretches (F := F)).Forall fun ops => ops.Forall fun op => op.fresh = ∅ := by
  repeat' constructor

/-- Core `c`'s buffers when the region is entered: the launch memory after the host line. -/
def V (c : Dev nD) (b : Ref sig .tc) : Buf (Elt F) ((c : Thread nD τ).loc b) :=
  StableHlo.after (stretches (F := F)).flatten (fun b => m (c, b)) b

set_option maxHeartbeats 800000 in
/-- @main up to the region: from the launch memory the host line leaves the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh fun c => main_chain c

/-- The host line writes no argument. -/
theorem V_main_arg0 (c : Dev nD) : V m c main_arg0 = m ((c : Thread nD τ).loc main_arg0) := by
  unfold V; after_reads_simp
/-- The host code leaves argument 1 as it was. -/
theorem V_main_arg1 (c : Dev nD) : V m c main_arg1 = m ((c : Thread nD τ).loc main_arg1) := by
  unfold V; after_reads_simp
/-- The host code leaves argument 2 as it was. -/
theorem V_main_arg2 (c : Dev nD) : V m c main_arg2 = m ((c : Thread nD τ).loc main_arg2) := by
  unfold V; after_reads_simp
/-- The host code leaves argument 3 as it was. -/
theorem V_main_arg3 (c : Dev nD) : V m c main_arg3 = m ((c : Thread nD τ).loc main_arg3) := by
  unfold V; after_reads_simp
/-- The host code leaves argument 4 as it was. -/
theorem V_main_arg4 (c : Dev nD) : V m c main_arg4 = m ((c : Thread nD τ).loc main_arg4) := by
  unfold V; after_reads_simp

/-! ## The visit tables, read off the buffers the region finds -/

/-- The tables' contents when the region is entered. -/
def tbl : pre0.Contents (Elt F) := fun j => V m (0 : Dev nD) (pre0.ref j)
/-- There is one device, so every device holds those tables. -/
theorem V_pre (c : Dev nD) (j : Fin 4) : V m c (pre0.ref j) = tbl m j := by
  obtain rfl : c = 0 := Subsingleton.elim _ _; rfl

/-- Every block the tables name lies inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it. -/
abbrev tbM0_0 : Memref sig .tc .smem S51 .i32 := Memref.whole main_v49
abbrev htbM0_0 : tbM0_0.IsWhole := Memref.isWhole_whole _
abbrev tbM0_1 : Memref sig .tc .smem S51 .i32 := Memref.whole main_v25
abbrev htbM0_1 : tbM0_1.IsWhole := Memref.isWhole_whole _
abbrev tbM0_2 : Memref sig .tc .smem S51 .i32 := Memref.whole main_v60
abbrev htbM0_2 : tbM0_2.IsWhole := Memref.isWhole_whole _
abbrev tbM0_3 : Memref sig .tc .smem S51 .i32 := Memref.whole main_v71
abbrev htbM0_3 : tbM0_3.IsWhole := Memref.isWhole_whole _

/-- A table's contents on core `c`, and the table held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The body on any staging memrefs -/

/-- The body's two conditions exclude each other and one of them holds. -/
theorem cond2_of_not_cond1 (v24 v26 : BitVec 32) : (k0_cond2 v24 v26 = 1#1) = ¬(k0_cond1 v24 v26 = 1#1) := by
  unfold k0_cond2 k0_cond1
  exact (by decide : ∀ b : BitVec 1, (Scalar.cmpi .ne (Scalar.extui (Scalar.xori b 1#1) : BitVec 32) 0#32 = 1#1)
    = ¬(Scalar.cmpi .ne (Scalar.extui b : BitVec 32) 0#32 = 1#1)) _

/-- A load of a whole buffer reads its contents. -/
theorem readAt_full {sp : Space} {S : Shape} {e : EltTy} {M : Memref sig .tc sp S e} (hM : M.IsWhole) (x : S.Idx → Elt F e)
    {off : Fin S.rank → Nat} (h : off = fun _ => 0) (inb : ∀ a, off a + S.size a ≤ S.size a) :
    View.readAt (Elt F) M.view (Rect.unit off S.size inb).toLoadRect (hM.unread x) = x := by
  show View.ld (M.view.read (Elt F) (hM.unread x)) (Rect.unit off S.size inb) = x
  rw [hM.read_unread, View.ld_unit_zero h]

/-- A store over a whole buffer leaves what was stored. -/
theorem read_writes_full {sp : Space} {S : Shape} {e : EltTy} (M : Memref sig .tc sp S e) (f : M.view.ty.Contents (Elt F))
    {off : Fin S.rank → Nat} (h : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon _ _ _ fun y => ⟨_, List.mem_singleton_self _, View.mem_set_unit_zero h inb y⟩, View.canon_unit_zero h]

/-- The zero offsets of a rank-2 and a rank-3 buffer. -/
theorem off2_zero : (![0, 0] : Fin 2 → Nat) = fun _ => 0 := by funext a; fin_cases a <;> rfl
/-- Three zero offsets are the zero offset. -/
theorem off3_zero : (![0, 0, 0] : Fin 3 → Nat) = fun _ => 0 := by funext a; fin_cases a <;> rfl

/-- A word read from a buffer at known contents is the contents' word. -/
theorem readAt_word {sp : Space} {S : Shape} {e : EltTy} {M : Memref sig .tc sp S e} (hM : M.IsWhole) (x : S.Idx → Elt F e) (r : LoadRect S) (j : r.shape.Idx) :
    View.readAt (Elt F) M.view r (hM.unread x) j = x (r.idx j) := by
  show M.view.read (Elt F) (hM.unread x) (r.idx j) = x (r.idx j)
  rw [hM.read_unread]

/-- What the body leaves in the output's staging buffer, from the words and blocks it reads and the contents `Y` it finds
    there: the whole product tile when the visit owns every row of it, else that tile's rows merged into `Y`. -/
def outStep (v3 : Elt F .f32) (v4 : Vec F S512x2048 .bf16) (v13 : Vec F S1x2048x1792 .fp8e4m3) (v16 : Vec F S1x1x1792 .f32)
    (v24 v26 : Elt F .i32) (Y : Vec F S512x1792 .bf16) : Vec F S512x1792 .bf16 :=
  if k0_cond1 v24 v26 = 1#1 then k0_pay1 v3 v4 v13 v16 else k0_pay2 v3 v4 v13 v16 v24 v26 Y

/-- The word a table `M` holds at the grid point `i`. -/
abbrev wordAt (c : Dev nD) (M : Memref sig .tc .smem S51 .i32) (i : grid0.Coords) (xt : TbBuf0 (F := F) c M) : Elt F .i32 :=
  M.view.readAt (Elt F) (Rect.unit (s := S51) (k0_off1 i) S1.size (k0_off1_inb i)).toLoadRect xt (Shape.Idx.first (numel1_S1.symm ▸ Nat.one_pos))

/-- The expert's activation scale: the word of the scale array at the expert `v1`. -/
abbrev scaleAt (x0 : Vec F S4 .f32) (v1 : BitVec 32) (h : k0_chk1 v1) : Elt F .f32 :=
  x0 ((Rect.unit (s := S4) (k0_off2 v1) S1.size (k0_off2_inb v1 h)).toLoadRect.idx (Shape.Idx.first (numel1_S1.symm ▸ Nat.one_pos)))

set_option maxHeartbeats 1000000 in
/-- The body's triple: on whole staging memrefs at contents `x0 … x3` and `y`, with the tables' halves, the body runs to the
    inputs as they were and the output's buffer at `outStep`. -/
theorem kernelRun (c : Dev nD) (i : grid0.Coords) (arg5 : Memref sig .tc .smem S4 .f32) (harg5 : arg5.IsWhole) (arg6 : Memref sig .tc .vmem S512x2048 .bf16) (harg6 : arg6.IsWhole) (arg7 : Memref sig .tc .vmem S1x2048x1792 .fp8e4m3) (harg7 : arg7.IsWhole) (arg8 : Memref sig .tc .vmem S1x1x1792 .f32) (harg8 : arg8.IsWhole) (arg9 : Memref sig .tc .vmem S512x1792 .bf16) (harg9 : arg9.IsWhole)
    (x0 : Vec F S4 .f32) (x1 : Vec F S512x2048 .bf16) (x2 : Vec F S1x2048x1792 .fp8e4m3) (x3 : Vec F S1x1x1792 .f32) (y : Vec F S512x1792 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wordAt c tbM0_1 i xt1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3
                ∗ owns (c : Thread nD τ) arg9 fullShare (outStep (scaleAt x0 _ k0_hw1) x1 x2 x3 (wordAt c tbM0_2 i xt2) (wordAt c tbM0_3 i xt3) y)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8 i tbM0_0 htbM0_0 tbM0_1 htbM0_1 tbM0_2 htbM0_2 tbM0_3 htbM0_3 arg5 harg5 arg6 harg6 arg7 harg7 arg8 harg8 arg9 harg9) K := by
    intro E K
    simp only [cc0_grouped_fp8_eq_skeleton]; unfold cc0_grouped_fp8_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3
    obtain rfl := harg9.eq_unread hf4
    by_cases hc : k0_cond1 (wordAt c tbM0_2 i xt2) (wordAt c tbM0_3 i xt3) = 1#1
    · have hc2 : ¬ k0_cond2 (wordAt c tbM0_2 i xt2) (wordAt c tbM0_3 i xt3) = 1#1 := by
        rw [cond2_of_not_cond1]; exact not_not_intro hc
      rw [show outStep (scaleAt x0 _ k0_hw1) x1 x2 x3 (wordAt c tbM0_2 i xt2) (wordAt c tbM0_3 i xt3) y = k0_pay1 (scaleAt x0 _ k0_hw1) x1 x2 x3 from if_pos hc]
      sl_exec (disch := first | sl_exact k0_hw1 | sl_exact hc | sl_exact hc2)
      sl_step
      iapply Hk
      isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; swap; · iexact H4
        ipureintro
        refine (read_writes_full arg9 _ off2_zero _ _).trans ?_
        rw [readAt_full harg6 x1 off2_zero, readAt_full harg7 x2 off3_zero, readAt_full harg8 x3 off3_zero]
        unfold kernelRun.sl.r_1
        rw [readAt_word harg5]
        rfl
      isplitl [HT0]; · iexact HT0
      isplitl [HT1]; · iexact HT1
      isplitl [HT2]; · iexact HT2
      iexact HT3
    · have hc2 : k0_cond2 (wordAt c tbM0_2 i xt2) (wordAt c tbM0_3 i xt3) = 1#1 := by
        rw [cond2_of_not_cond1]; exact hc
      rw [show outStep (scaleAt x0 _ k0_hw1) x1 x2 x3 (wordAt c tbM0_2 i xt2) (wordAt c tbM0_3 i xt3) y = k0_pay2 (scaleAt x0 _ k0_hw1) x1 x2 x3 (wordAt c tbM0_2 i xt2) (wordAt c tbM0_3 i xt3) y from if_neg hc]
      sl_exec (disch := first | sl_exact k0_hw1 | sl_exact hc | sl_exact hc2)
      sl_step
      iapply Hk
      isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; swap; · iexact H4
        ipureintro
        refine (read_writes_full arg9 _ off2_zero _ _).trans ?_
        rw [readAt_full harg6 x1 off2_zero, readAt_full harg7 x2 off3_zero, readAt_full harg8 x3 off3_zero, readAt_full harg9 y off2_zero]
        unfold kernelRun.sl.r_5 kernelRun.sl.r_6 kernelRun.sl.r_7
        rw [readAt_word harg5]
        rfl
      isplitl [HT0]; · iexact HT0
      isplitl [HT1]; · iexact HT1
      isplitl [HT2]; · iexact HT2
      iexact HT3

end Cert.Kernel.Gen

end
-- ==== Proof.KernelFrame.lean ====
/-
  The kernel's run: what the body leaves in each staging buffer as relational proof
  data, the body obligation, the launch, and the frame claim under the tables' side conditions.
-/
module

public import proofs.«01_k».proof.Proof.KernelRun

@[expose] public section

-- the staging buffers' extents: the elaborator's structural look recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each window's current staging memref at point `t`. -/
abbrev ms0_0 (hO : Ok m) (t : Fin (cfgM m hO).N) : Memref sig .tc .smem S4 .f32 := spec0_0.stage ((cfgM m hO).slots t 0)
abbrev ms0_1 (hO : Ok m) (t : Fin (cfgM m hO).N) : Memref sig .tc .vmem S512x2048 .bf16 := spec0_1.stage ((cfgM m hO).slots t 1)
abbrev ms0_2 (hO : Ok m) (t : Fin (cfgM m hO).N) : Memref sig .tc .vmem S1x2048x1792 .fp8e4m3 := spec0_2.stage ((cfgM m hO).slots t 2)
abbrev ms0_3 (hO : Ok m) (t : Fin (cfgM m hO).N) : Memref sig .tc .vmem S1x1x1792 .f32 := spec0_3.stage ((cfgM m hO).slots t 3)
abbrev ms0_4 (hO : Ok m) (t : Fin (cfgM m hO).N) : Memref sig .tc .vmem S512x1792 .bf16 := spec0_4.stage ((cfgM m hO).slots t 4)

/-- The kernel body at point `t`, on what the pipeline calls it with. -/
abbrev bodyAt0 (a : (pcfg0 (F := F)).Adm) (t : Fin (cfg0 a).N) : Prog (TpuEff nD τ sig (Elt F) Λ₀ .tc) PUnit :=
  cc0_grouped_fp8 (grid0.coords t) tbM0_0 htbM0_0 tbM0_1 htbM0_1 tbM0_2 htbM0_2 tbM0_3 htbM0_3 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The side condition the body assumes at every visit: the expert it reads is one of the four. -/
def Hyps : Prop := ∀ (c : Dev nD) (i : grid0.Coords), k0_chk1 (wordAt c tbM0_1 i (tbl m 1))

/-- What a visit leaves in the output's staging buffer, given the contents `Y` it finds there. -/
def visit (hO : Ok m) (hH : Hyps m) (c : Dev nD) (t : Fin (cfgM m hO).N) (Y : Vec F S512x1792 .bf16) : Vec F S512x1792 .bf16 :=
  outStep (scaleAt (iblk m hO c 0 t) _ (hH c (grid0.coords t))) (iblk m hO c 1 t) (iblk m hO c 2 t) (iblk m hO c 3 t)
    (wordAt c tbM0_2 (grid0.coords t) (tbl m 2)) (wordAt c tbM0_3 (grid0.coords t) (tbl m 3)) Y

/-- The pipeline's proof data on core `c`: the arrays as the region finds them; a visit leaves each input's buffer as
    it was and the output's at `visit` of what it found. -/
def rdat (hO : Ok m) (hH : Hyps m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = visit m hO hH c t Y
  Φ _ := iprop(Pipeline.ΦA spec0 c ∗ Pipeline.ΦT pre0 (tbl m) c)
  q _ := fullShare
  owed _ := 0

/-- The proof data's arrays are the contents the region finds. -/
theorem A_eq (hO : Ok m) (hH : Hyps m) (c : Dev nD) (w : Fin (cfgM m hO).W) : (rdat m hO hH c).A w = V m c (Pipeline.arrRef spec0 w) := by
  dsimp only [rdat]

/-- Each input's staging buffer holds its block at every visit, fetched there or not. -/
theorem finds0_0 (hO : Ok m) (hH : Hyps m) (c : Dev nD) (t : Fin (cfgM m hO).N) (Y) (h : (rdat m hO hH c).Finds 0 t Y) : Y = iblk m hO c 0 t := by
  obtain ⟨d, hd⟩ := (rdat m hO hH c).finds_in_eq_fetched 0 rfl (fun _ _ _ => rfl) (fun _ _ _ h => h) t Y h
  exact hd.trans (by unfold RDat.fetched RDat.blockOf iblk; rw [A_eq]; try rfl)
/-- Every visit finds operand window 1 holding the block that its index map names. -/
theorem finds0_1 (hO : Ok m) (hH : Hyps m) (c : Dev nD) (t : Fin (cfgM m hO).N) (Y) (h : (rdat m hO hH c).Finds 1 t Y) : Y = iblk m hO c 1 t := by
  obtain ⟨d, hd⟩ := (rdat m hO hH c).finds_in_eq_fetched 1 rfl (fun _ _ _ => rfl) (fun _ _ _ h => h) t Y h
  exact hd.trans (by unfold RDat.fetched RDat.blockOf iblk; rw [A_eq]; try rfl)
/-- Every visit finds operand window 2 holding the block that its index map names. -/
theorem finds0_2 (hO : Ok m) (hH : Hyps m) (c : Dev nD) (t : Fin (cfgM m hO).N) (Y) (h : (rdat m hO hH c).Finds 2 t Y) : Y = iblk m hO c 2 t := by
  obtain ⟨d, hd⟩ := (rdat m hO hH c).finds_in_eq_fetched 2 rfl (fun _ _ _ => rfl) (fun _ _ _ h => h) t Y h
  exact hd.trans (by unfold RDat.fetched RDat.blockOf iblk; rw [A_eq]; try rfl)
/-- Every visit finds operand window 3 holding the block that its index map names. -/
theorem finds0_3 (hO : Ok m) (hH : Hyps m) (c : Dev nD) (t : Fin (cfgM m hO).N) (Y) (h : (rdat m hO hH c).Finds 3 t Y) : Y = iblk m hO c 3 t := by
  obtain ⟨d, hd⟩ := (rdat m hO hH c).finds_in_eq_fetched 3 rfl (fun _ _ _ => rfl) (fun _ _ _ h => h) t Y h
  exact hd.trans (by unfold RDat.fetched RDat.blockOf iblk; rw [A_eq]; try rfl)

/-- What the body is called with at point `t`, window by window. -/
def bodyPre (hO : Ok m) (hH : Hyps m) (c : Dev nD) (t : Fin (cfgM m hO).N) (Y : Vec F S512x1792 .bf16) : sProp 𝕄 :=
  iprop((rdat m hO hH c).Φ t.castSucc ∗ (rdat m hO hH c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare Y)

/-- What it returns. -/
def bodyPost (hO : Ok m) (hH : Hyps m) (c : Dev nD) (t : Fin (cfgM m hO).N) (Y : Vec F S512x1792 .bf16) : sProp 𝕄 :=
  iprop((rdat m hO hH c).Φ t.succ ∗ (rdat m hO hH c).owesAt () t.succ
    ∗ (∃ X, ⌜X = iblk m hO c 0 t⌝ ∗ owns (c : Thread nD τ) (ms0_0 m hO t) fullShare X)
    ∗ (∃ X, ⌜X = iblk m hO c 1 t⌝ ∗ owns (c : Thread nD τ) (ms0_1 m hO t) fullShare X)
    ∗ (∃ X, ⌜X = iblk m hO c 2 t⌝ ∗ owns (c : Thread nD τ) (ms0_2 m hO t) fullShare X)
    ∗ (∃ X, ⌜X = iblk m hO c 3 t⌝ ∗ owns (c : Thread nD τ) (ms0_3 m hO t) fullShare X)
    ∗ (∃ X, ⌜X = visit m hO hH c t Y⌝ ∗ owns (c : Thread nD τ) (ms0_4 m hO t) fullShare X))

/-- The body at any point takes the one to the other. -/
theorem sound_body (hO : Ok m) (hH : Hyps m) (c : Dev nD) (t : Fin (cfgM m hO).N) (Y : Vec F S512x1792 .bf16) :
    bodyPre m hO hH c t Y ⊢ wp frame (wpE (defs₀ (F := F)) Variants.none c none) Set.univ (bodyAt0 (adm m hO) t) (fun _ => bodyPost m hO hH c t Y) := by
  unfold bodyPre bodyPost bodyAt0
  rw [show (rdat m hO hH c).Φ t.succ = (rdat m hO hH c).Φ t.castSucc from rfl,
    show (rdat m hO hH c).owesAt () t.succ = (rdat m hO hH c).owesAt () t.castSucc from rfl]
  rw [show (rdat m hO hH c).Φ t.castSucc = iprop(Pipeline.ΦA spec0 c ∗ Pipeline.ΦT pre0 (tbl m) c) from rfl, PhiT0_eq]
  iintro ⟨⟨HΦ, ⟨HT0, HT1, HT2, HT3⟩⟩, Ho, H0, H1, H2, H3, H4⟩
  iapply ((kernelRun c (grid0.coords t) _ _ _ _ _ _ _ _ _ _ (iblk m hO c 0 t) (iblk m hO c 1 t) (iblk m hO c 2 t) (iblk m hO c 3 t) Y (tbl m 0) (tbl m 1) (tbl m 2) (tbl m 3) (hH c (grid0.coords t))) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (hH : Hyps m) (c : Dev nD) : (rdat (F := F) m hO hH c).BodyObligation (defs₀ (F := F)) Variants.none () Set.univ := fun t Y hY => by
  rw [bigSep_W0, bigSep_W0, defs₀_row m hO]
  have h0 := finds0_0 m hO hH c t _ (hY 0)
  have h1 := finds0_1 m hO hH c t _ (hY 1)
  have h2 := finds0_2 m hO hH c t _ (hY 2)
  have h3 := finds0_3 m hO hH c t _ (hY 3)
  rw [h0, h1, h2, h3]
  exact triple_restated (sound_body m hO hH c t (Y 4)) rfl .rfl fun _ => .rfl

-- the launch theorem's implicit arguments are found by unifying its conclusion with this one, which takes unfolding
-- plain definitions in a metavariable's type
set_option backward.isDefEq.respectTransparency.types false in
/-- The launch: every fair run ends with each array at contents the proof data allows, every other buffer as the region
    found it, and every counter at zero. -/
theorem run_main (hO : Ok m) (hH : Hyps m) : θ_run defs (onTc (τ := τ) (main (F := F))) (s₀ m ρ) (fun r => (RDat.FramePost ((Pipeline.pin pcfgs fun _ => adm m hO) 0) (rdat m hO hH) (V m)) r ∧ r.2.sem = fun _ => 0) :=
  RDat.θ_run_frameP (Q' := _) pcfgs (fun _ => adm m hO) (0 : Fin 1) launch0 defs₀ Variants.none (rdat m hO hH) m ρ main
    (hbody := body_obligation m hO hH) (hshare := fun c w => by unfold RDat.share; split <;> rfl)
    (howed := fun _ _ => rfl) (V := V m) (hmain := hmain m Variants.none) (hA := A_eq m hO hH) (hpf := V_pre m) (hΦ := fun _ _ => rfl)

/-- The five arguments end unchanged in a state the launch allows. -/
theorem args_of (hO : Ok m) (hH : Hyps m) {r : PUnit × MemSt nD τ sig (Elt F)}
    (h : RDat.FramePost ((Pipeline.pin pcfgs fun _ => adm m hO) 0) (rdat m hO hH) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 1 rfl).trans ((A_eq m hO hH c 1).trans (V_main_arg0 m c)),
    ((h c).2 main_arg1 (by decide : main_arg1 ∈ Pipeline.restRefs sig spec0)).trans (V_main_arg1 m c),
    (RDat.FramePost.arr_in h c 0 rfl).trans ((A_eq m hO hH c 0).trans (V_main_arg2 m c)),
    (RDat.FramePost.arr_in h c 2 rfl).trans ((A_eq m hO hH c 2).trans (V_main_arg3 m c)),
    ((h c).2 main_arg4 (by decide : main_arg4 ∈ Pipeline.restRefs sig spec0)).trans (V_main_arg4 m c)⟩

/-- The frame: the arguments end unchanged and every counter at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m hO hH h.1 c, h.2⟩) (run_main m ρ hO hH)

end Cert.Kernel.Gen

end
-- ==== Proof.KernelReads.lean ====
/-
  The visit tables the kernel's region finds are the tables of the group sizes.
-/
module

public import proofs.«01_k».proof.Proof.KernelRun
public import proofs.«01_k».proof.Proof.Tables

@[expose] public section

set_option maxRecDepth 16384

noncomputable section

namespace Cert.Kernel.Gen

open Idealize.ShloMosaic Idealize.ShloMosaic.TcCoe Idealize.ShloMosaic.Tactic Idealize.ShloMosaic.ValueIdx
open Idealize.SL.Sem
open Cert.Tables Cert.Visits

variable {F : FTy → Type} [FloatOps F]

variable (m : (ℓ : Loc nD τ sig) → Buf (Elt F) ℓ)

/-- The group sizes a device is launched with. -/
abbrev gOf (c : Dev nD) : IVec S4 32 := m ((c : Thread nD τ).loc main_arg1)

set_option maxHeartbeats 1000000 in
/-- The first table holds each step's tile. -/
theorem V_tile (c : Dev nD) : V m c main_v49 = tileW (gOf m c) := by
  unfold V; after_reads_simp
  simp only [StableHlo.TRef.ofBuf_toBuf]
  simp only [StableHlo.TRef.ofBuf, StableHlo.TRef.toBuf, cast_eq, id]
  rfl
set_option maxHeartbeats 1000000 in
/-- The second table holds each step's group. -/
theorem V_e (c : Dev nD) : V m c main_v25 = eW (gOf m c) := by
  unfold V; after_reads_simp
  simp only [StableHlo.TRef.ofBuf_toBuf]
  simp only [StableHlo.TRef.ofBuf, StableHlo.TRef.toBuf, cast_eq, id]
  rfl
set_option maxHeartbeats 1000000 in
/-- The third table holds the first row of each step's tile that belongs to its group. -/
theorem V_lo (c : Dev nD) : V m c main_v60 = loW (gOf m c) := by
  unfold V; after_reads_simp
  simp only [StableHlo.TRef.ofBuf_toBuf]
  simp only [StableHlo.TRef.ofBuf, StableHlo.TRef.toBuf, cast_eq, id]
  rfl
set_option maxHeartbeats 1000000 in
/-- The fourth table holds the row after the last one that does. -/
theorem V_hi (c : Dev nD) : V m c main_v71 = hiW (gOf m c) := by
  unfold V; after_reads_simp
  simp only [StableHlo.TRef.ofBuf_toBuf]
  simp only [StableHlo.TRef.ofBuf, StableHlo.TRef.toBuf, cast_eq, id]
  rfl

end Cert.Kernel.Gen
-- ==== Proof.KernelTables.lean ====
/-
  The words of the visit tables at a grid point, and the side conditions they meet: every block they name
  lies inside its array, and every group they name is one of the four.
-/
module

public import proofs.«01_k».proof.Proof.KernelFrame
public import proofs.«01_k».proof.Proof.KernelReads

@[expose] public section

set_option maxRecDepth 16384

noncomputable section

namespace Cert.Kernel.Gen

open Idealize.ShloMosaic Idealize.ShloMosaic.TcCoe Idealize.ShloMosaic.Tactic
open Idealize.SL.Sem
open Cert.Tables Cert.Visits

variable {F : FTy → Type} [FloatOps F]

variable (m : (ℓ : Loc nD τ sig) → Buf (Elt F) ℓ)

/-! ## The tables' words at a grid point -/

/-- The grid's one axis has 51 points. -/
theorem pt_lt (i : grid0.Coords) : (i 0).val < 51 := (i 0).isLt
/-- A grid point as a place of a table. -/
abbrev pt (i : grid0.Coords) : S51.Idx := ValueIdx.ix1 (⟨(i 0).val, pt_lt i⟩ : Fin 51)

/-- The place a load at a grid point reads. -/
theorem idx_pt (i : grid0.Coords) (j) : (Rect.unit (s := S51) (k0_off1 i) S1.size (k0_off1_inb i)).toLoadRect.idx j = pt i := by
  funext a
  obtain rfl : a = 0 := Subsingleton.elim _ _
  apply Fin.ext
  have hj : (j 0).val < 1 := (j 0).isLt
  have ho : k0_off1 i 0 = (i 0).val := by rw [k0_off1_eq]; rfl
  show k0_off1 i 0 + 1 * (j 0).val = (i 0).val
  omega

/-- The word that the body loads from a table at a visit is the table's entry there. -/
theorem word_eq (c : Dev nD) (M : Memref sig .tc .smem S51 .i32) (hM : M.IsWhole) (i : grid0.Coords) (x : S51.Idx → Elt F .i32) :
    wordAt c M i (hM.unread x) = x (pt i) := by
  show M.view.readAt (Elt F) _ (hM.unread x) _ = _
  rw [readAt_word hM, idx_pt]

/-- What the four loads of tables read at a grid point. -/
theorem tile_at (i : grid0.Coords) : (tbl m).at 0 (Rect.unit (s := S51) (k0_off1 i) S1.size (k0_off1_inb i)) numel1_S1 = tileW (gOf m 0) (pt i) := by
  show tbl m 0 _ = _
  refine (congrArg (tbl m 0) (idx_pt i _)).trans (congrFun (V_tile m 0) _)
/-- The group table at a visit. -/
theorem e_at (i : grid0.Coords) : (tbl m).at 1 (Rect.unit (s := S51) (k0_off1 i) S1.size (k0_off1_inb i)) numel1_S1 = eW (gOf m 0) (pt i) := by
  show tbl m 1 _ = _
  refine (congrArg (tbl m 1) (idx_pt i _)).trans (congrFun (V_e m 0) _)
/-- The group word that the body loads. -/
theorem e_word (c : Dev nD) (i : grid0.Coords) : wordAt c tbM0_1 i (tbl m 1) = eW (gOf m 0) (pt i) := e_at m i
/-- The first-row word that the body loads. -/
theorem lo_word (c : Dev nD) (i : grid0.Coords) : wordAt c tbM0_2 i (tbl m 2) = loW (gOf m 0) (pt i) :=
  (congrArg (tbl m 2) (idx_pt i _)).trans (congrFun (V_lo m 0) _)
/-- The end-row word that the body loads. -/
theorem hi_word (c : Dev nD) (i : grid0.Coords) : wordAt c tbM0_3 i (tbl m 3) = hiW (gOf m 0) (pt i) :=
  (congrArg (tbl m 3) (idx_pt i _)).trans (congrFun (V_hi m 0) _)

/-! ## The side conditions -/

section
variable (hg : Ragged (gOf m 0))
include hg

/-- The step's natural numbers at a grid point. -/
theorem e_nat (i : grid0.Coords) : eW (gOf m 0) (pt i) = BitVec.ofNat 32 (eN (sizes (gOf m 0)) (i 0).val) := eW_ap hg ⟨(i 0).val, pt_lt i⟩
/-- The tile word of a visit is its tile number. -/
theorem tile_nat (i : grid0.Coords) : tileW (gOf m 0) (pt i) = BitVec.ofNat 32 (tileN (sizes (gOf m 0)) (i 0).val) := tileW_ap hg ⟨(i 0).val, pt_lt i⟩
/-- The group of a visit is one of the four. -/
theorem e_lt (i : grid0.Coords) : eN (sizes (gOf m 0)) (i 0).val < 4 := (expert _ hg.total _).1
/-- The tile of a visit is one of the 48. -/
theorem tile_lt (i : grid0.Coords) : tileN (sizes (gOf m 0)) (i 0).val < 48 := (tile_bounds _ hg.total _).1

/-- The block each window stages at a grid point. -/
theorem transform_1 (i : grid0.Coords) : cc0_transform_1 k0_off1_inb numel1_S1 (tbl m) i = ![tileN (sizes (gOf m 0)) (i 0).val, 0] := by
  have h : ((tbl m).at 0 (Rect.unit (s := S51) (k0_off1 i) S1.size (k0_off1_inb i)) numel1_S1 : BitVec 32).toNat = tileN (sizes (gOf m 0)) (i 0).val := by
    have hl := tile_lt m hg i
    rw [tile_at, tile_nat m hg, BitVec.toNat_ofNat]; omega
  show ![((tbl m).at 0 (Rect.unit (s := S51) (k0_off1 i) S1.size (k0_off1_inb i)) numel1_S1 : BitVec 32).toNat, _] = _
  rw [h]; rfl
/-- The result window of a visit is at its tile. -/
theorem transform_4 (i : grid0.Coords) : cc0_transform_4 k0_off1_inb numel1_S1 (tbl m) i = ![tileN (sizes (gOf m 0)) (i 0).val, 0] := transform_1 m hg i
/-- The weight window of a visit is at its group. -/
theorem transform_2 (i : grid0.Coords) : cc0_transform_2 k0_off1_inb numel1_S1 (tbl m) i = ![eN (sizes (gOf m 0)) (i 0).val, 0, 0] := by
  have h : ((tbl m).at 1 (Rect.unit (s := S51) (k0_off1 i) S1.size (k0_off1_inb i)) numel1_S1 : BitVec 32).toNat = eN (sizes (gOf m 0)) (i 0).val := by
    have hl := e_lt m hg i
    rw [e_at, e_nat m hg, BitVec.toNat_ofNat]; omega
  show ![((tbl m).at 1 (Rect.unit (s := S51) (k0_off1 i) S1.size (k0_off1_inb i)) numel1_S1 : BitVec 32).toNat, _, _] = _
  rw [h]; rfl
/-- The weight-scale window of a visit is at its group. -/
theorem transform_3 (i : grid0.Coords) : cc0_transform_3 k0_off1_inb numel1_S1 (tbl m) i = ![eN (sizes (gOf m 0)) (i 0).val, 0, 0] := transform_2 m hg i

/-- Every block the tables name lies inside its array, and its rows fill whole words. -/
theorem ok_of : Ok m := by
  refine ⟨fun i => ?_, fun i => ?_, fun i => ?_, fun i => ?_⟩
  · have hl := tile_lt m hg i
    rw [transform_1 m hg]
    refine ⟨fun a => ?_, .inr (.inl (.inr ⟨Nat.le_refl 2, rfl, .inl ⟨?_, show (2 : ℕ) ∣ 512 by decide⟩⟩))⟩
    · fin_cases a
      · show (tileN (sizes (gOf m 0)) (i 0).val + 1) * 512 ≤ 24576; omega
      · show (0 + 1) * 2048 ≤ 2048; omega
    · exact Dvd.dvd.mul_left (show (2 : ℕ) ∣ 512 by decide) _
  · have hl := e_lt m hg i
    rw [transform_2 m hg]
    refine ⟨fun a => ?_, .inr (.inl (.inr ⟨Nat.le_succ 2, rfl, .inl ⟨?_, show (4 : ℕ) ∣ 2048 by decide⟩⟩))⟩
    · fin_cases a
      · show (eN (sizes (gOf m 0)) (i 0).val + 1) * 1 ≤ 4; omega
      · show (0 + 1) * 2048 ≤ 2048; omega
      · show (0 + 1) * 1792 ≤ 1792; omega
    · exact Dvd.dvd.mul_left (show (4 : ℕ) ∣ 2048 by decide) _
  · have hl := e_lt m hg i
    rw [transform_3 m hg]
    refine ⟨fun a => ?_, .inl rfl⟩
    fin_cases a
    · show (eN (sizes (gOf m 0)) (i 0).val + 1) * 1 ≤ 4; omega
    · show (0 + 1) * 1 ≤ 1; omega
    · show (0 + 1) * 1792 ≤ 1792; omega
  · have hl := tile_lt m hg i
    rw [transform_4 m hg]
    refine ⟨fun a => ?_, .inr (.inl (.inr ⟨Nat.le_refl 2, rfl, .inl ⟨?_, show (2 : ℕ) ∣ 512 by decide⟩⟩))⟩
    · fin_cases a
      · show (tileN (sizes (gOf m 0)) (i 0).val + 1) * 512 ≤ 24576; omega
      · show (0 + 1) * 1792 ≤ 1792; omega
    · exact Dvd.dvd.mul_left (show (2 : ℕ) ∣ 512 by decide) _

/-- Every group the tables name is one of the four. -/
theorem hyps_of : Hyps m := fun c i => by
  have hl := e_lt m hg i
  rw [e_word, e_nat m hg]
  intro a
  obtain rfl : a = 0 := Subsingleton.elim _ _
  show (BitVec.ofNat 32 (eN (sizes (gOf m 0)) (i 0).val)).toNat + 1 ≤ 4
  rw [BitVec.toNat_ofNat]; omega

end

end Cert.Kernel.Gen
-- ==== Proof.IdealRun.lean ====
/-
  What the kernel's region shares (the program with exact arithmetic): the contents of every buffer when the region is
  entered, the four visit tables read off them, and the kernel's body run on any staging buffers.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.StableHlo.ReadAt
public import Idealize.ShloMosaic.Lib.Claim

@[expose] public section

-- the staging buffers' extents: the elaborator's structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The stretches of host operations before the region, in order. -/
abbrev stretches : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12]

/-- Every operation of the host line reads and writes buffers of the core. -/
theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub, hostOps0_12_sub⟩

/-- No operation of the host line leaves a buffer at arbitrary contents. -/
theorem stretches_fresh : (stretches (F := F)).Forall fun ops => ops.Forall fun op => op.fresh = ∅ := by
  repeat' constructor

/-- Core `c`'s buffers when the region is entered: the launch memory after the host line. -/
def V (c : Dev nD) (b : Ref sig .tc) : Buf (Elt F) ((c : Thread nD τ).loc b) :=
  StableHlo.after (stretches (F := F)).flatten (fun b => m (c, b)) b

set_option maxHeartbeats 800000 in
/-- @main up to the region: from the launch memory the host line leaves the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh fun c => main_chain c

/-- The host line writes no argument. -/
theorem V_main_arg0 (c : Dev nD) : V m c main_arg0 = m ((c : Thread nD τ).loc main_arg0) := by
  unfold V; after_reads_simp
/-- The host code leaves argument 1 as it was. -/
theorem V_main_arg1 (c : Dev nD) : V m c main_arg1 = m ((c : Thread nD τ).loc main_arg1) := by
  unfold V; after_reads_simp
/-- The host code leaves argument 2 as it was. -/
theorem V_main_arg2 (c : Dev nD) : V m c main_arg2 = m ((c : Thread nD τ).loc main_arg2) := by
  unfold V; after_reads_simp
/-- The host code leaves argument 3 as it was. -/
theorem V_main_arg3 (c : Dev nD) : V m c main_arg3 = m ((c : Thread nD τ).loc main_arg3) := by
  unfold V; after_reads_simp
/-- The host code leaves argument 4 as it was. -/
theorem V_main_arg4 (c : Dev nD) : V m c main_arg4 = m ((c : Thread nD τ).loc main_arg4) := by
  unfold V; after_reads_simp

/-! ## The visit tables, read off the buffers the region finds -/

/-- The tables' contents when the region is entered. -/
def tbl : pre0.Contents (Elt F) := fun j => V m (0 : Dev nD) (pre0.ref j)
/-- There is one device, so every device holds those tables. -/
theorem V_pre (c : Dev nD) (j : Fin 4) : V m c (pre0.ref j) = tbl m j := by
  obtain rfl : c = 0 := Subsingleton.elim _ _; rfl

/-- Every block the tables name lies inside its array. -/
abbrev Ok : Prop := ok0 (F := F) (tbl m)
/-- The tables as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it. -/
abbrev tbM0_0 : Memref sig .tc .smem S51 .i32 := Memref.whole main_v49
abbrev htbM0_0 : tbM0_0.IsWhole := Memref.isWhole_whole _
abbrev tbM0_1 : Memref sig .tc .smem S51 .i32 := Memref.whole main_v25
abbrev htbM0_1 : tbM0_1.IsWhole := Memref.isWhole_whole _
abbrev tbM0_2 : Memref sig .tc .smem S51 .i32 := Memref.whole main_v60
abbrev htbM0_2 : tbM0_2.IsWhole := Memref.isWhole_whole _
abbrev tbM0_3 : Memref sig .tc .smem S51 .i32 := Memref.whole main_v71
abbrev htbM0_3 : tbM0_3.IsWhole := Memref.isWhole_whole _

/-- A table's contents on core `c`, and the table held at half the full share. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The body on any staging memrefs -/

/-- The body's two conditions exclude each other and one of them holds. -/
theorem cond2_of_not_cond1 (v24 v26 : BitVec 32) : (k0_cond2 v24 v26 = 1#1) = ¬(k0_cond1 v24 v26 = 1#1) := by
  unfold k0_cond2 k0_cond1
  exact (by decide : ∀ b : BitVec 1, (Scalar.cmpi .ne (Scalar.extui (Scalar.xori b 1#1) : BitVec 32) 0#32 = 1#1)
    = ¬(Scalar.cmpi .ne (Scalar.extui b : BitVec 32) 0#32 = 1#1)) _

/-- A load of a whole buffer reads its contents. -/
theorem readAt_full {sp : Space} {S : Shape} {e : EltTy} {M : Memref sig .tc sp S e} (hM : M.IsWhole) (x : S.Idx → Elt F e)
    {off : Fin S.rank → Nat} (h : off = fun _ => 0) (inb : ∀ a, off a + S.size a ≤ S.size a) :
    View.readAt (Elt F) M.view (Rect.unit off S.size inb).toLoadRect (hM.unread x) = x := by
  show View.ld (M.view.read (Elt F) (hM.unread x)) (Rect.unit off S.size inb) = x
  rw [hM.read_unread, View.ld_unit_zero h]

/-- A store over a whole buffer leaves what was stored. -/
theorem read_writes_full {sp : Space} {S : Shape} {e : EltTy} (M : Memref sig .tc sp S e) (f : M.view.ty.Contents (Elt F))
    {off : Fin S.rank → Nat} (h : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  rw [View.read_writes_eq_canon _ _ _ fun y => ⟨_, List.mem_singleton_self _, View.mem_set_unit_zero h inb y⟩, View.canon_unit_zero h]

/-- The zero offsets of a rank-2 and a rank-3 buffer. -/
theorem off2_zero : (![0, 0] : Fin 2 → Nat) = fun _ => 0 := by funext a; fin_cases a <;> rfl
/-- Three zero offsets are the zero offset. -/
theorem off3_zero : (![0, 0, 0] : Fin 3 → Nat) = fun _ => 0 := by funext a; fin_cases a <;> rfl

/-- A word read from a buffer at known contents is the contents' word. -/
theorem readAt_word {sp : Space} {S : Shape} {e : EltTy} {M : Memref sig .tc sp S e} (hM : M.IsWhole) (x : S.Idx → Elt F e) (r : LoadRect S) (j : r.shape.Idx) :
    View.readAt (Elt F) M.view r (hM.unread x) j = x (r.idx j) := by
  show M.view.read (Elt F) (hM.unread x) (r.idx j) = x (r.idx j)
  rw [hM.read_unread]

/-- What the body leaves in the output's staging buffer, from the words and blocks it reads and the contents `Y` it finds
    there: the whole product tile when the visit owns every row of it, else that tile's rows merged into `Y`. -/
def outStep (v3 : Elt F .f32) (v4 : Vec F S512x2048 .bf16) (v13 : Vec F S1x2048x1792 .fp8e4m3) (v16 : Vec F S1x1x1792 .f32)
    (v24 v26 : Elt F .i32) (Y : Vec F S512x1792 .bf16) : Vec F S512x1792 .bf16 :=
  if k0_cond1 v24 v26 = 1#1 then k0_pay1 v3 v4 v13 v16 else k0_pay2 v3 v4 v13 v16 v24 v26 Y

/-- The word a table `M` holds at the grid point `i`. -/
abbrev wordAt (c : Dev nD) (M : Memref sig .tc .smem S51 .i32) (i : grid0.Coords) (xt : TbBuf0 (F := F) c M) : Elt F .i32 :=
  M.view.readAt (Elt F) (Rect.unit (s := S51) (k0_off1 i) S1.size (k0_off1_inb i)).toLoadRect xt (Shape.Idx.first (numel1_S1.symm ▸ Nat.one_pos))

/-- The expert's activation scale: the word of the scale array at the expert `v1`. -/
abbrev scaleAt (x0 : Vec F S4 .f32) (v1 : BitVec 32) (h : k0_chk1 v1) : Elt F .f32 :=
  x0 ((Rect.unit (s := S4) (k0_off2 v1) S1.size (k0_off2_inb v1 h)).toLoadRect.idx (Shape.Idx.first (numel1_S1.symm ▸ Nat.one_pos)))

set_option maxHeartbeats 1000000 in
/-- The body's triple: on whole staging memrefs at contents `x0 … x3` and `y`, with the tables' halves, the body runs to the
    inputs as they were and the output's buffer at `outStep`. -/
theorem kernelRun (c : Dev nD) (i : grid0.Coords) (arg5 : Memref sig .tc .smem S4 .f32) (harg5 : arg5.IsWhole) (arg6 : Memref sig .tc .vmem S512x2048 .bf16) (harg6 : arg6.IsWhole) (arg7 : Memref sig .tc .vmem S1x2048x1792 .fp8e4m3) (harg7 : arg7.IsWhole) (arg8 : Memref sig .tc .vmem S1x1x1792 .f32) (harg8 : arg8.IsWhole) (arg9 : Memref sig .tc .vmem S512x1792 .bf16) (harg9 : arg9.IsWhole)
    (x0 : Vec F S4 .f32) (x1 : Vec F S512x2048 .bf16) (x2 : Vec F S1x2048x1792 .fp8e4m3) (x3 : Vec F S1x1x1792 .f32) (y : Vec F S512x1792 .bf16) (xt0 : TbBuf0 (F := F) c tbM0_0) (xt1 : TbBuf0 (F := F) c tbM0_1) (xt2 : TbBuf0 (F := F) c tbM0_2) (xt3 : TbBuf0 (F := F) c tbM0_3) (k0_hw1 : k0_chk1 (wordAt c tbM0_1 i xt1)) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3
                ∗ owns (c : Thread nD τ) arg9 fullShare (outStep (scaleAt x0 _ k0_hw1) x1 x2 x3 (wordAt c tbM0_2 i xt2) (wordAt c tbM0_3 i xt3) y)
                ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_grouped_fp8 i tbM0_0 htbM0_0 tbM0_1 htbM0_1 tbM0_2 htbM0_2 tbM0_3 htbM0_3 arg5 harg5 arg6 harg6 arg7 harg7 arg8 harg8 arg9 harg9) K := by
    intro E K
    simp only [cc0_grouped_fp8_eq_skeleton]; unfold cc0_grouped_fp8_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3
    obtain rfl := harg9.eq_unread hf4
    by_cases hc : k0_cond1 (wordAt c tbM0_2 i xt2) (wordAt c tbM0_3 i xt3) = 1#1
    · have hc2 : ¬ k0_cond2 (wordAt c tbM0_2 i xt2) (wordAt c tbM0_3 i xt3) = 1#1 := by
        rw [cond2_of_not_cond1]; exact not_not_intro hc
      rw [show outStep (scaleAt x0 _ k0_hw1) x1 x2 x3 (wordAt c tbM0_2 i xt2) (wordAt c tbM0_3 i xt3) y = k0_pay1 (scaleAt x0 _ k0_hw1) x1 x2 x3 from if_pos hc]
      sl_exec (disch := first | sl_exact k0_hw1 | sl_exact hc | sl_exact hc2)
      sl_step
      iapply Hk
      isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; swap; · iexact H4
        ipureintro
        refine (read_writes_full arg9 _ off2_zero _ _).trans ?_
        rw [readAt_full harg6 x1 off2_zero, readAt_full harg7 x2 off3_zero, readAt_full harg8 x3 off3_zero]
        unfold kernelRun.sl.r_1
        rw [readAt_word harg5]
        rfl
      isplitl [HT0]; · iexact HT0
      isplitl [HT1]; · iexact HT1
      isplitl [HT2]; · iexact HT2
      iexact HT3
    · have hc2 : k0_cond2 (wordAt c tbM0_2 i xt2) (wordAt c tbM0_3 i xt3) = 1#1 := by
        rw [cond2_of_not_cond1]; exact hc
      rw [show outStep (scaleAt x0 _ k0_hw1) x1 x2 x3 (wordAt c tbM0_2 i xt2) (wordAt c tbM0_3 i xt3) y = k0_pay2 (scaleAt x0 _ k0_hw1) x1 x2 x3 (wordAt c tbM0_2 i xt2) (wordAt c tbM0_3 i xt3) y from if_neg hc]
      sl_exec (disch := first | sl_exact k0_hw1 | sl_exact hc | sl_exact hc2)
      sl_step
      iapply Hk
      isplitl [H0]
      · iexists _; isplitr; · ipureintro; exact harg5.read_unread _
        iexact H0
      isplitl [H1]
      · iexists _; isplitr; · ipureintro; exact harg6.read_unread _
        iexact H1
      isplitl [H2]
      · iexists _; isplitr; · ipureintro; exact harg7.read_unread _
        iexact H2
      isplitl [H3]
      · iexists _; isplitr; · ipureintro; exact harg8.read_unread _
        iexact H3
      isplitl [H4]
      · iexists _; isplitr; swap; · iexact H4
        ipureintro
        refine (read_writes_full arg9 _ off2_zero _ _).trans ?_
        rw [readAt_full harg6 x1 off2_zero, readAt_full harg7 x2 off3_zero, readAt_full harg8 x3 off3_zero, readAt_full harg9 y off2_zero]
        unfold kernelRun.sl.r_5 kernelRun.sl.r_6 kernelRun.sl.r_7
        rw [readAt_word harg5]
        rfl
      isplitl [HT0]; · iexact HT0
      isplitl [HT1]; · iexact HT1
      isplitl [HT2]; · iexact HT2
      iexact HT3

end Cert.KernelIdeal.Gen

end
-- ==== Proof.IdealFrame.lean ====
/-
  The kernel's run (the program with exact arithmetic): what the body leaves in each staging buffer as relational proof
  data, the body obligation, the launch, and the frame claim under the tables' side conditions.
-/
module

public import proofs.«01_k».proof.Proof.IdealRun

@[expose] public section

-- the staging buffers' extents: the elaborator's structural look recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Each window's current staging memref at point `t`. -/
abbrev ms0_0 (hO : Ok m) (t : Fin (cfgM m hO).N) : Memref sig .tc .smem S4 .f32 := spec0_0.stage ((cfgM m hO).slots t 0)
abbrev ms0_1 (hO : Ok m) (t : Fin (cfgM m hO).N) : Memref sig .tc .vmem S512x2048 .bf16 := spec0_1.stage ((cfgM m hO).slots t 1)
abbrev ms0_2 (hO : Ok m) (t : Fin (cfgM m hO).N) : Memref sig .tc .vmem S1x2048x1792 .fp8e4m3 := spec0_2.stage ((cfgM m hO).slots t 2)
abbrev ms0_3 (hO : Ok m) (t : Fin (cfgM m hO).N) : Memref sig .tc .vmem S1x1x1792 .f32 := spec0_3.stage ((cfgM m hO).slots t 3)
abbrev ms0_4 (hO : Ok m) (t : Fin (cfgM m hO).N) : Memref sig .tc .vmem S512x1792 .bf16 := spec0_4.stage ((cfgM m hO).slots t 4)

/-- The kernel body at point `t`, on what the pipeline calls it with. -/
abbrev bodyAt0 (a : (pcfg0 (F := F)).Adm) (t : Fin (cfg0 a).N) : Prog (TpuEff nD τ sig (Elt F) Λ₀ .tc) PUnit :=
  cc0_grouped_fp8 (grid0.coords t) tbM0_0 htbM0_0 tbM0_1 htbM0_1 tbM0_2 htbM0_2 tbM0_3 htbM0_3 (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The side condition the body assumes at every visit: the expert it reads is one of the four. -/
def Hyps : Prop := ∀ (c : Dev nD) (i : grid0.Coords), k0_chk1 (wordAt c tbM0_1 i (tbl m 1))

/-- What a visit leaves in the output's staging buffer, given the contents `Y` it finds there. -/
def visit (hO : Ok m) (hH : Hyps m) (c : Dev nD) (t : Fin (cfgM m hO).N) (Y : Vec F S512x1792 .bf16) : Vec F S512x1792 .bf16 :=
  outStep (scaleAt (iblk m hO c 0 t) _ (hH c (grid0.coords t))) (iblk m hO c 1 t) (iblk m hO c 2 t) (iblk m hO c 3 t)
    (wordAt c tbM0_2 (grid0.coords t) (tbl m 2)) (wordAt c tbM0_3 (grid0.coords t) (tbl m 3)) Y

/-- The pipeline's proof data on core `c`: the arrays as the region finds them; a visit leaves each input's buffer as
    it was and the output's at `visit` of what it found. -/
def rdat (hO : Ok m) (hH : Hyps m) (c : Dev nD) : RDat τ (Elt F) Unit ℕ (UR sig nD τ) ℕ (cfgM m hO) c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = visit m hO hH c t Y
  Φ _ := iprop(Pipeline.ΦA spec0 c ∗ Pipeline.ΦT pre0 (tbl m) c)
  q _ := fullShare
  owed _ := 0

/-- The proof data's arrays are the contents the region finds. -/
theorem A_eq (hO : Ok m) (hH : Hyps m) (c : Dev nD) (w : Fin (cfgM m hO).W) : (rdat m hO hH c).A w = V m c (Pipeline.arrRef spec0 w) := by
  dsimp only [rdat]

/-- Each input's staging buffer holds its block at every visit, fetched there or not. -/
theorem finds0_0 (hO : Ok m) (hH : Hyps m) (c : Dev nD) (t : Fin (cfgM m hO).N) (Y) (h : (rdat m hO hH c).Finds 0 t Y) : Y = iblk m hO c 0 t := by
  obtain ⟨d, hd⟩ := (rdat m hO hH c).finds_in_eq_fetched 0 rfl (fun _ _ _ => rfl) (fun _ _ _ h => h) t Y h
  exact hd.trans (by unfold RDat.fetched RDat.blockOf iblk; rw [A_eq]; try rfl)
/-- Every visit finds operand window 1 holding the block that its index map names. -/
theorem finds0_1 (hO : Ok m) (hH : Hyps m) (c : Dev nD) (t : Fin (cfgM m hO).N) (Y) (h : (rdat m hO hH c).Finds 1 t Y) : Y = iblk m hO c 1 t := by
  obtain ⟨d, hd⟩ := (rdat m hO hH c).finds_in_eq_fetched 1 rfl (fun _ _ _ => rfl) (fun _ _ _ h => h) t Y h
  exact hd.trans (by unfold RDat.fetched RDat.blockOf iblk; rw [A_eq]; try rfl)
/-- Every visit finds operand window 2 holding the block that its index map names. -/
theorem finds0_2 (hO : Ok m) (hH : Hyps m) (c : Dev nD) (t : Fin (cfgM m hO).N) (Y) (h : (rdat m hO hH c).Finds 2 t Y) : Y = iblk m hO c 2 t := by
  obtain ⟨d, hd⟩ := (rdat m hO hH c).finds_in_eq_fetched 2 rfl (fun _ _ _ => rfl) (fun _ _ _ h => h) t Y h
  exact hd.trans (by unfold RDat.fetched RDat.blockOf iblk; rw [A_eq]; try rfl)
/-- Every visit finds operand window 3 holding the block that its index map names. -/
theorem finds0_3 (hO : Ok m) (hH : Hyps m) (c : Dev nD) (t : Fin (cfgM m hO).N) (Y) (h : (rdat m hO hH c).Finds 3 t Y) : Y = iblk m hO c 3 t := by
  obtain ⟨d, hd⟩ := (rdat m hO hH c).finds_in_eq_fetched 3 rfl (fun _ _ _ => rfl) (fun _ _ _ h => h) t Y h
  exact hd.trans (by unfold RDat.fetched RDat.blockOf iblk; rw [A_eq]; try rfl)

/-- What the body is called with at point `t`, window by window. -/
def bodyPre (hO : Ok m) (hH : Hyps m) (c : Dev nD) (t : Fin (cfgM m hO).N) (Y : Vec F S512x1792 .bf16) : sProp 𝕄 :=
  iprop((rdat m hO hH c).Φ t.castSucc ∗ (rdat m hO hH c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare Y)

/-- What it returns. -/
def bodyPost (hO : Ok m) (hH : Hyps m) (c : Dev nD) (t : Fin (cfgM m hO).N) (Y : Vec F S512x1792 .bf16) : sProp 𝕄 :=
  iprop((rdat m hO hH c).Φ t.succ ∗ (rdat m hO hH c).owesAt () t.succ
    ∗ (∃ X, ⌜X = iblk m hO c 0 t⌝ ∗ owns (c : Thread nD τ) (ms0_0 m hO t) fullShare X)
    ∗ (∃ X, ⌜X = iblk m hO c 1 t⌝ ∗ owns (c : Thread nD τ) (ms0_1 m hO t) fullShare X)
    ∗ (∃ X, ⌜X = iblk m hO c 2 t⌝ ∗ owns (c : Thread nD τ) (ms0_2 m hO t) fullShare X)
    ∗ (∃ X, ⌜X = iblk m hO c 3 t⌝ ∗ owns (c : Thread nD τ) (ms0_3 m hO t) fullShare X)
    ∗ (∃ X, ⌜X = visit m hO hH c t Y⌝ ∗ owns (c : Thread nD τ) (ms0_4 m hO t) fullShare X))

/-- The body at any point takes the one to the other. -/
theorem sound_body (hO : Ok m) (hH : Hyps m) (c : Dev nD) (t : Fin (cfgM m hO).N) (Y : Vec F S512x1792 .bf16) :
    bodyPre m hO hH c t Y ⊢ wp frame (wpE (defs₀ (F := F)) Variants.none c none) Set.univ (bodyAt0 (adm m hO) t) (fun _ => bodyPost m hO hH c t Y) := by
  unfold bodyPre bodyPost bodyAt0
  rw [show (rdat m hO hH c).Φ t.succ = (rdat m hO hH c).Φ t.castSucc from rfl,
    show (rdat m hO hH c).owesAt () t.succ = (rdat m hO hH c).owesAt () t.castSucc from rfl]
  rw [show (rdat m hO hH c).Φ t.castSucc = iprop(Pipeline.ΦA spec0 c ∗ Pipeline.ΦT pre0 (tbl m) c) from rfl, PhiT0_eq]
  iintro ⟨⟨HΦ, ⟨HT0, HT1, HT2, HT3⟩⟩, Ho, H0, H1, H2, H3, H4⟩
  iapply ((kernelRun c (grid0.coords t) _ _ _ _ _ _ _ _ _ _ (iblk m hO c 0 t) (iblk m hO c 1 t) (iblk m hO c 2 t) (iblk m hO c 3 t) Y (tbl m 0) (tbl m 1) (tbl m 2) (tbl m 3) (hH c (grid0.coords t))) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexists _; isplitr; · ipureintro; rfl
                  iexact H0
  isplitl [H1]; · iexists _; isplitr; · ipureintro; rfl
                  iexact H1
  isplitl [H2]; · iexists _; isplitr; · ipureintro; rfl
                  iexact H2
  isplitl [H3]; · iexists _; isplitr; · ipureintro; rfl
                  iexact H3
  iexists _; isplitr; · ipureintro; rfl
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The pipeline's body obligation, at every point. -/
theorem body_obligation (hO : Ok m) (hH : Hyps m) (c : Dev nD) : (rdat (F := F) m hO hH c).BodyObligation (defs₀ (F := F)) Variants.none () Set.univ := fun t Y hY => by
  rw [bigSep_W0, bigSep_W0, defs₀_row m hO]
  have h0 := finds0_0 m hO hH c t _ (hY 0)
  have h1 := finds0_1 m hO hH c t _ (hY 1)
  have h2 := finds0_2 m hO hH c t _ (hY 2)
  have h3 := finds0_3 m hO hH c t _ (hY 3)
  rw [h0, h1, h2, h3]
  exact triple_restated (sound_body m hO hH c t (Y 4)) rfl .rfl fun _ => .rfl

-- the launch theorem's implicit arguments are found by unifying its conclusion with this one, which takes unfolding
-- plain definitions in a metavariable's type
set_option backward.isDefEq.respectTransparency.types false in
/-- The launch: every fair run ends with each array at contents the proof data allows, every other buffer as the region
    found it, and every counter at zero. -/
theorem run_main (hO : Ok m) (hH : Hyps m) : θ_run defs (onTc (τ := τ) (main (F := F))) (s₀ m ρ) (fun r => (RDat.FramePost ((Pipeline.pin pcfgs fun _ => adm m hO) 0) (rdat m hO hH) (V m)) r ∧ r.2.sem = fun _ => 0) :=
  RDat.θ_run_frameP (Q' := _) pcfgs (fun _ => adm m hO) (0 : Fin 1) launch0 defs₀ Variants.none (rdat m hO hH) m ρ main
    (hbody := body_obligation m hO hH) (hshare := fun c w => by unfold RDat.share; split <;> rfl)
    (howed := fun _ _ => rfl) (V := V m) (hmain := hmain m Variants.none) (hA := A_eq m hO hH) (hpf := V_pre m) (hΦ := fun _ _ => rfl)

/-- The five arguments end unchanged in a state the launch allows. -/
theorem args_of (hO : Ok m) (hH : Hyps m) {r : PUnit × MemSt nD τ sig (Elt F)}
    (h : RDat.FramePost ((Pipeline.pin pcfgs fun _ => adm m hO) 0) (rdat m hO hH) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(RDat.FramePost.arr_in h c 1 rfl).trans ((A_eq m hO hH c 1).trans (V_main_arg0 m c)),
    ((h c).2 main_arg1 (by decide : main_arg1 ∈ Pipeline.restRefs sig spec0)).trans (V_main_arg1 m c),
    (RDat.FramePost.arr_in h c 0 rfl).trans ((A_eq m hO hH c 0).trans (V_main_arg2 m c)),
    (RDat.FramePost.arr_in h c 2 rfl).trans ((A_eq m hO hH c 2).trans (V_main_arg3 m c)),
    ((h c).2 main_arg4 (by decide : main_arg4 ∈ Pipeline.restRefs sig spec0)).trans (V_main_arg4 m c)⟩

/-- The frame: the arguments end unchanged and every counter at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => args_of m hO hH h.1 c, h.2⟩) (run_main m ρ hO hH)

end Cert.KernelIdeal.Gen

end
-- ==== Proof.IdealReads.lean ====
/-
  The visit tables the kernel's region finds (the program with exact arithmetic) are the tables of the group sizes.
-/
module

public import proofs.«01_k».proof.Proof.IdealRun
public import proofs.«01_k».proof.Proof.Tables

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL.Sem
open Cert.Tables Cert.Visits

variable {F : FTy → Type} [FloatOps F]

variable (m : (ℓ : Loc nD τ sig) → Buf (Elt F) ℓ)

/-- The group sizes a device is launched with. -/
abbrev gOf (c : Dev nD) : IVec S4 32 := m ((c : Thread nD τ).loc main_arg1)

set_option maxHeartbeats 1000000 in
/-- The first table holds each step's tile. -/
theorem V_tile (c : Dev nD) : V m c main_v49 = tileW (gOf m c) := by
  unfold V; after_reads_simp
  simp only [StableHlo.TRef.ofBuf_toBuf]
  simp only [StableHlo.TRef.ofBuf, StableHlo.TRef.toBuf, cast_eq, id]
  rfl
set_option maxHeartbeats 1000000 in
/-- The second table holds each step's group. -/
theorem V_e (c : Dev nD) : V m c main_v25 = eW (gOf m c) := by
  unfold V; after_reads_simp
  simp only [StableHlo.TRef.ofBuf_toBuf]
  simp only [StableHlo.TRef.ofBuf, StableHlo.TRef.toBuf, cast_eq, id]
  rfl
set_option maxHeartbeats 1000000 in
/-- The third table holds the first row of each step's tile that belongs to its group. -/
theorem V_lo (c : Dev nD) : V m c main_v60 = loW (gOf m c) := by
  unfold V; after_reads_simp
  simp only [StableHlo.TRef.ofBuf_toBuf]
  simp only [StableHlo.TRef.ofBuf, StableHlo.TRef.toBuf, cast_eq, id]
  rfl
set_option maxHeartbeats 1000000 in
/-- The fourth table holds the row after the last one that does. -/
theorem V_hi (c : Dev nD) : V m c main_v71 = hiW (gOf m c) := by
  unfold V; after_reads_simp
  simp only [StableHlo.TRef.ofBuf_toBuf]
  simp only [StableHlo.TRef.ofBuf, StableHlo.TRef.toBuf, cast_eq, id]
  rfl

end Cert.KernelIdeal.Gen
-- ==== Proof.IdealTables.lean ====
/-
  The words of the visit tables at a grid point (the program with exact arithmetic), and the side conditions they meet: every block they name
  lies inside its array, and every group they name is one of the four.
-/
module

public import proofs.«01_k».proof.Proof.IdealFrame
public import proofs.«01_k».proof.Proof.IdealReads

@[expose] public section

set_option maxRecDepth 16384

noncomputable section

namespace Cert.KernelIdeal.Gen

open Idealize.ShloMosaic Idealize.ShloMosaic.TcCoe Idealize.ShloMosaic.Tactic
open Idealize.SL.Sem
open Cert.Tables Cert.Visits

variable {F : FTy → Type} [FloatOps F]

variable (m : (ℓ : Loc nD τ sig) → Buf (Elt F) ℓ)

/-! ## The tables' words at a grid point -/

/-- The grid's one axis has 51 points. -/
theorem pt_lt (i : grid0.Coords) : (i 0).val < 51 := (i 0).isLt
/-- A grid point as a place of a table. -/
abbrev pt (i : grid0.Coords) : S51.Idx := ValueIdx.ix1 (⟨(i 0).val, pt_lt i⟩ : Fin 51)

/-- The place a load at a grid point reads. -/
theorem idx_pt (i : grid0.Coords) (j) : (Rect.unit (s := S51) (k0_off1 i) S1.size (k0_off1_inb i)).toLoadRect.idx j = pt i := by
  funext a
  obtain rfl : a = 0 := Subsingleton.elim _ _
  apply Fin.ext
  have hj : (j 0).val < 1 := (j 0).isLt
  have ho : k0_off1 i 0 = (i 0).val := by rw [k0_off1_eq]; rfl
  show k0_off1 i 0 + 1 * (j 0).val = (i 0).val
  omega

/-- The word that the body loads from a table at a visit is the table's entry there. -/
theorem word_eq (c : Dev nD) (M : Memref sig .tc .smem S51 .i32) (hM : M.IsWhole) (i : grid0.Coords) (x : S51.Idx → Elt F .i32) :
    wordAt c M i (hM.unread x) = x (pt i) := by
  show M.view.readAt (Elt F) _ (hM.unread x) _ = _
  rw [readAt_word hM, idx_pt]

/-- What the four loads of tables read at a grid point. -/
theorem tile_at (i : grid0.Coords) : (tbl m).at 0 (Rect.unit (s := S51) (k0_off1 i) S1.size (k0_off1_inb i)) numel1_S1 = tileW (gOf m 0) (pt i) := by
  show tbl m 0 _ = _
  refine (congrArg (tbl m 0) (idx_pt i _)).trans (congrFun (V_tile m 0) _)
/-- The group table at a visit. -/
theorem e_at (i : grid0.Coords) : (tbl m).at 1 (Rect.unit (s := S51) (k0_off1 i) S1.size (k0_off1_inb i)) numel1_S1 = eW (gOf m 0) (pt i) := by
  show tbl m 1 _ = _
  refine (congrArg (tbl m 1) (idx_pt i _)).trans (congrFun (V_e m 0) _)
/-- The group word that the body loads. -/
theorem e_word (c : Dev nD) (i : grid0.Coords) : wordAt c tbM0_1 i (tbl m 1) = eW (gOf m 0) (pt i) := e_at m i
/-- The first-row word that the body loads. -/
theorem lo_word (c : Dev nD) (i : grid0.Coords) : wordAt c tbM0_2 i (tbl m 2) = loW (gOf m 0) (pt i) :=
  (congrArg (tbl m 2) (idx_pt i _)).trans (congrFun (V_lo m 0) _)
/-- The end-row word that the body loads. -/
theorem hi_word (c : Dev nD) (i : grid0.Coords) : wordAt c tbM0_3 i (tbl m 3) = hiW (gOf m 0) (pt i) :=
  (congrArg (tbl m 3) (idx_pt i _)).trans (congrFun (V_hi m 0) _)

/-! ## The side conditions -/

section
variable (hg : Ragged (gOf m 0))
include hg

/-- The step's natural numbers at a grid point. -/
theorem e_nat (i : grid0.Coords) : eW (gOf m 0) (pt i) = BitVec.ofNat 32 (eN (sizes (gOf m 0)) (i 0).val) := eW_ap hg ⟨(i 0).val, pt_lt i⟩
/-- The tile word of a visit is its tile number. -/
theorem tile_nat (i : grid0.Coords) : tileW (gOf m 0) (pt i) = BitVec.ofNat 32 (tileN (sizes (gOf m 0)) (i 0).val) := tileW_ap hg ⟨(i 0).val, pt_lt i⟩
/-- The group of a visit is one of the four. -/
theorem e_lt (i : grid0.Coords) : eN (sizes (gOf m 0)) (i 0).val < 4 := (expert _ hg.total _).1
/-- The tile of a visit is one of the 48. -/
theorem tile_lt (i : grid0.Coords) : tileN (sizes (gOf m 0)) (i 0).val < 48 := (tile_bounds _ hg.total _).1

/-- The block each window stages at a grid point. -/
theorem transform_1 (i : grid0.Coords) : cc0_transform_1 k0_off1_inb numel1_S1 (tbl m) i = ![tileN (sizes (gOf m 0)) (i 0).val, 0] := by
  have h : ((tbl m).at 0 (Rect.unit (s := S51) (k0_off1 i) S1.size (k0_off1_inb i)) numel1_S1 : BitVec 32).toNat = tileN (sizes (gOf m 0)) (i 0).val := by
    have hl := tile_lt m hg i
    rw [tile_at, tile_nat m hg, BitVec.toNat_ofNat]; omega
  show ![((tbl m).at 0 (Rect.unit (s := S51) (k0_off1 i) S1.size (k0_off1_inb i)) numel1_S1 : BitVec 32).toNat, _] = _
  rw [h]; rfl
/-- The result window of a visit is at its tile. -/
theorem transform_4 (i : grid0.Coords) : cc0_transform_4 k0_off1_inb numel1_S1 (tbl m) i = ![tileN (sizes (gOf m 0)) (i 0).val, 0] := transform_1 m hg i
/-- The weight window of a visit is at its group. -/
theorem transform_2 (i : grid0.Coords) : cc0_transform_2 k0_off1_inb numel1_S1 (tbl m) i = ![eN (sizes (gOf m 0)) (i 0).val, 0, 0] := by
  have h : ((tbl m).at 1 (Rect.unit (s := S51) (k0_off1 i) S1.size (k0_off1_inb i)) numel1_S1 : BitVec 32).toNat = eN (sizes (gOf m 0)) (i 0).val := by
    have hl := e_lt m hg i
    rw [e_at, e_nat m hg, BitVec.toNat_ofNat]; omega
  show ![((tbl m).at 1 (Rect.unit (s := S51) (k0_off1 i) S1.size (k0_off1_inb i)) numel1_S1 : BitVec 32).toNat, _, _] = _
  rw [h]; rfl
/-- The weight-scale window of a visit is at its group. -/
theorem transform_3 (i : grid0.Coords) : cc0_transform_3 k0_off1_inb numel1_S1 (tbl m) i = ![eN (sizes (gOf m 0)) (i 0).val, 0, 0] := transform_2 m hg i

/-- Every block the tables name lies inside its array, and its rows fill whole words. -/
theorem ok_of : Ok m := by
  refine ⟨fun i => ?_, fun i => ?_, fun i => ?_, fun i => ?_⟩
  · have hl := tile_lt m hg i
    rw [transform_1 m hg]
    refine ⟨fun a => ?_, .inr (.inl (.inr ⟨Nat.le_refl 2, rfl, .inl ⟨?_, show (2 : ℕ) ∣ 512 by decide⟩⟩))⟩
    · fin_cases a
      · show (tileN (sizes (gOf m 0)) (i 0).val + 1) * 512 ≤ 24576; omega
      · show (0 + 1) * 2048 ≤ 2048; omega
    · exact Dvd.dvd.mul_left (show (2 : ℕ) ∣ 512 by decide) _
  · have hl := e_lt m hg i
    rw [transform_2 m hg]
    refine ⟨fun a => ?_, .inr (.inl (.inr ⟨Nat.le_succ 2, rfl, .inl ⟨?_, show (4 : ℕ) ∣ 2048 by decide⟩⟩))⟩
    · fin_cases a
      · show (eN (sizes (gOf m 0)) (i 0).val + 1) * 1 ≤ 4; omega
      · show (0 + 1) * 2048 ≤ 2048; omega
      · show (0 + 1) * 1792 ≤ 1792; omega
    · exact Dvd.dvd.mul_left (show (4 : ℕ) ∣ 2048 by decide) _
  · have hl := e_lt m hg i
    rw [transform_3 m hg]
    refine ⟨fun a => ?_, .inl rfl⟩
    fin_cases a
    · show (eN (sizes (gOf m 0)) (i 0).val + 1) * 1 ≤ 4; omega
    · show (0 + 1) * 1 ≤ 1; omega
    · show (0 + 1) * 1792 ≤ 1792; omega
  · have hl := tile_lt m hg i
    rw [transform_4 m hg]
    refine ⟨fun a => ?_, .inr (.inl (.inr ⟨Nat.le_refl 2, rfl, .inl ⟨?_, show (2 : ℕ) ∣ 512 by decide⟩⟩))⟩
    · fin_cases a
      · show (tileN (sizes (gOf m 0)) (i 0).val + 1) * 512 ≤ 24576; omega
      · show (0 + 1) * 1792 ≤ 1792; omega
    · exact Dvd.dvd.mul_left (show (2 : ℕ) ∣ 512 by decide) _

/-- Every group the tables name is one of the four. -/
theorem hyps_of : Hyps m := fun c i => by
  have hl := e_lt m hg i
  rw [e_word, e_nat m hg]
  intro a
  obtain rfl : a = 0 := Subsingleton.elim _ _
  show (BitVec.ofNat 32 (eN (sizes (gOf m 0)) (i 0).val)).toNat + 1 ≤ 4
  rw [BitVec.toNat_ofNat]; omega

end

end Cert.KernelIdeal.Gen
-- ==== Proof.Experts.lean ====
/-
  The group each row belongs to, on natural numbers: the number of groups that start at or before the row, less one.
-/
module

public import proofs.«01_k».proof.Proof.Visits

@[expose] public section

namespace Cert.Visits

variable (g : ℕ → ℕ)

/-- How many groups start at or before row `R`. -/
def startsN (R : ℕ) : ℕ := Nat.count (fun k => startN g k ≤ R) 4
/-- The group of row `R`. -/
def expertN (R : ℕ) : ℕ := startsN g R - 1

/-- Group 0 starts after the groups before it. -/
theorem startN_0 : startN g 0 = 0 := by have := start_add g 0; have := endN_0 g; omega
/-- Group 1 starts after the groups before it. -/
theorem startN_1 : startN g 1 = g 0 := by have := start_add g 1; have := endN_1 g; omega
/-- Group 2 starts after the groups before it. -/
theorem startN_2 : startN g 2 = g 0 + g 1 := by have := start_add g 2; have := endN_2 g; omega
/-- Group 3 starts after the groups before it. -/
theorem startN_3 : startN g 3 = g 0 + g 1 + g 2 := by have := start_add g 3; have := endN_3 g; omega

/-- The count, written out. -/
theorem startsN_eq (R : ℕ) : startsN g R = (((if startN g 0 ≤ R then 1 else 0) + (if startN g 1 ≤ R then 1 else 0))
    + (if startN g 2 ≤ R then 1 else 0)) + (if startN g 3 ≤ R then 1 else 0) := by
  unfold startsN
  rw [Nat.count_succ, Nat.count_succ, Nat.count_succ, Nat.count_succ, Nat.count_zero, Nat.zero_add]

/-- The first group starts at row zero, so at least one group starts at or before any row. -/
theorem starts_pos (R : ℕ) : 1 ≤ startsN g R := by
  rw [startsN_eq, startN_0, if_pos (Nat.zero_le R)]; omega

/-- At most four groups start at or before a row. -/
theorem starts_le (R : ℕ) : startsN g R ≤ 4 := Nat.count_le _

/-- The group of a row is one of the four. -/
theorem expert_lt (R : ℕ) : expertN g R < 4 := by
  have := starts_le g R; have := starts_pos g R; unfold expertN; omega

/-- A row between a group's start and its end belongs to that group. -/
theorem expert_eq {e R : ℕ} (he : e < 4) (h1 : startN g e ≤ R) (h2 : R < endN g e) : expertN g R = e := by
  unfold expertN
  have e0 := endN_0 g; have e1 := endN_1 g; have e2 := endN_2 g; have e3 := endN_3 g
  rw [startsN_eq, startN_0, startN_1, startN_2, startN_3]
  have s0 := startN_0 g; have s1 := startN_1 g; have s2 := startN_2 g; have s3 := startN_3 g
  interval_cases e <;> (repeat' split) <;> omega

/-- Adding up, over the rows up to `R`, how many groups start at each row counts the groups that start at or before `R`. -/
theorem sum_starts (R : ℕ) : ((List.range (R + 1)).map fun r => Nat.count (fun k => startN g k = r) 4).sum = startsN g R := by
  have hc : ∀ r, Nat.count (fun k => startN g k = r) 4 = (((if startN g 0 = r then 1 else 0) + (if startN g 1 = r then 1 else 0))
      + (if startN g 2 = r then 1 else 0)) + (if startN g 3 = r then 1 else 0) := fun r => by
    rw [Nat.count_succ, Nat.count_succ, Nat.count_succ, Nat.count_succ, Nat.count_zero, Nat.zero_add]
  induction R with
  | zero =>
    rw [startsN_eq]
    simp only [Nat.zero_add, List.range_one, List.map_cons, List.map_nil, List.sum_cons, List.sum_nil, Nat.add_zero, hc, Nat.le_zero]
  | succ R ih =>
    rw [List.range_succ, List.map_append, List.sum_append, ih, startsN_eq, startsN_eq]
    simp only [List.map_cons, List.map_nil, List.sum_cons, List.sum_nil, Nat.add_zero, hc]
    have h : ∀ s, ((if s ≤ R then 1 else 0) + (if s = R + 1 then 1 else 0) : ℕ) = if s ≤ R + 1 then 1 else 0 := fun s => by
      repeat' split
      all_goals omega
    have h0 := h (startN g 0); have h1 := h (startN g 1); have h2 := h (startN g 2); have h3 := h (startN g 3)
    omega

end Cert.Visits
-- ==== Proof.Entry.lean ====
/-
  The problem's mathematics as one formula: an entry of the result from the row of activations, the activation scale and the columns of weights and
  weight scales of the group the row belongs to.
-/
module

public import proofs.«01_k».proof.Proof.Tables
public import proofs.«01_k».proof.Proof.Experts
public import Idealize.ShloMosaic.Lib.Pointwise

@[expose] public section

noncomputable section

namespace Cert.Entry

open Idealize.ShloMosaic
open Cert.Visits
open Cert.Tables (sizes)
open Cert.KernelIdeal (S4 S24576x2048 S4x2048x1792 S4x1792 S24576x1792)

/-- An activation over its scale, clipped to the largest codes. -/
def quant (x s : EReal) : EReal := min (Ideal.ofBits FTy.f32 1138753536#32) (max (Ideal.ofBits FTy.f32 3286237184#32) (Ideal.div x s))

/-- One entry: the quantised row times the column of weights, times the two scales. -/
def entry (x : Fin 2048 → EReal) (s : EReal) (w : Fin 2048 → EReal) (ws : EReal) : EReal := (∑ k, quant (x k) s * w k) * (s * ws)

/-- Equal data give equal entries. -/
theorem entry_congr {x x' : Fin 2048 → EReal} {s s' : EReal} {w w' : Fin 2048 → EReal} {ws ws' : EReal} (hx : x = x') (hs : s = s') (hw : w = w')
    (hws : ws = ws') : entry x s w ws = entry x' s' w' ws' := by rw [hx, hs, hw, hws]

/-- The group of row `R`. -/
def groupOf (g : IVec S4 32) (R : ℕ) : Fin 4 := ⟨expertN (sizes g) R, expert_lt (sizes g) R⟩

/-- The result at row `R` and column `j`. -/
def outAt (x : S24576x2048.Idx → EReal) (g : IVec S4 32) (s : S4.Idx → EReal) (w : S4x2048x1792.Idx → EReal) (ws : S4x1792.Idx → EReal)
    (R : Fin 24576) (j : Fin 1792) : EReal :=
  entry (fun k => x (ix2 R k)) (s (ValueIdx.ix1 (groupOf g R.val))) (fun k => w (ix3 (groupOf g R.val) k j)) (ws (ix2 (groupOf g R.val) j))

/-- The whole result. -/
def out (x : S24576x2048.Idx → EReal) (g : IVec S4 32) (s : S4.Idx → EReal) (w : S4x2048x1792.Idx → EReal) (ws : S4x1792.Idx → EReal) :
    S24576x1792.Idx → EReal := fun i => outAt x g s w ws (i 0) (i 1)

/-- Equal arguments give equal results. -/
theorem out_congr {x x' : S24576x2048.Idx → EReal} {g g' : IVec S4 32} {s s' : S4.Idx → EReal} {w w' : S4x2048x1792.Idx → EReal} {ws ws' : S4x1792.Idx → EReal}
    (hx : x = x') (hg : g = g') (hs : s = s') (hw : w = w') (hws : ws = ws') : out x g s w ws = out x' g' s' w' ws' := by rw [hx, hg, hs, hw, hws]

end Cert.Entry

end
-- ==== Proof.IdealBlock.lean ====
/-
  What one visit computes (the program with exact arithmetic): the blocks it reads off the arguments, and the entries it leaves in the output's
  staging buffer.
-/
module

public import proofs.«01_k».proof.Proof.IdealTables
public import proofs.«01_k».proof.Proof.Entry

@[expose] public section

set_option maxRecDepth 16384

noncomputable section

namespace Cert.KernelIdeal.Gen

open Idealize.ShloMosaic Idealize.ShloMosaic.TcCoe Idealize.ShloMosaic.Tactic
open Idealize.SL.Sem
open Cert.Tables Cert.Visits Cert.Entry

/-! ## The payloads at an index -/

/-- The product tile at row `r` and column `j`. -/
theorem pay1_at (v3 : Elt Ideal .f32) (v4 : Vec Ideal S512x2048 .bf16) (v13 : Vec Ideal S1x2048x1792 .fp8e4m3) (v16 : Vec Ideal S1x1x1792 .f32)
    (r : Fin 512) (j : Fin 1792) :
    k0_pay1 v3 v4 v13 v16 (ix2 r j) = entry (fun k => v4 (ix2 r k)) v3 (fun k => v13 (ix3 0 k j)) (v16 (ix3 0 0 j)) := by
  pointwise [k0_pay1]
  rfl

/-- The merged tile at row `r` and column `j`. -/
theorem pay2_at (v3 : Elt Ideal .f32) (v4 : Vec Ideal S512x2048 .bf16) (v13 : Vec Ideal S1x2048x1792 .fp8e4m3) (v16 : Vec Ideal S1x1x1792 .f32)
    (a b : BitVec 32) (Y : Vec Ideal S512x1792 .bf16) (r : Fin 512) (j : Fin 1792) :
    k0_pay2 v3 v4 v13 v16 a b Y (ix2 r j)
      = Scalar.select (IntOp.andi (IntOp.cmpi .sge (BitVec.ofNat 32 r.val) a) (IntOp.cmpi .slt (BitVec.ofNat 32 r.val) b)) (k0_pay1 v3 v4 v13 v16 (ix2 r j)) (Y (ix2 r j)) := by
  pointwise [k0_pay2]

/-- The visit owns every row of its tile exactly when its rows start at the first and end after the last. -/
theorem cond1_iff {lo hi : ℕ} (hlo : lo ≤ 512) (hhi : hi ≤ 512) : k0_cond1 (BitVec.ofNat 32 lo) (BitVec.ofNat 32 hi) = 1#1 ↔ lo = 0 ∧ hi = 512 := by
  show Scalar.cmpi .ne (Scalar.extui (IntOp.andi (IntOp.cmpi .sle (BitVec.ofNat 32 lo) (BitVec.ofNat 32 0)) (IntOp.cmpi .sge (BitVec.ofNat 32 hi) (BitVec.ofNat 32 512)))) 0#32 = 1#1 ↔ _
  rw [WordCmp.cmpi_sle_ofNat (by omega) (by omega), WordCmp.cmpi_sge_ofNat (by omega) (by omega), WordCmp.andi_ofBool]
  rw [show ∀ b : Bool, (Scalar.cmpi .ne (Scalar.extui (BitVec.ofBool b)) 0#32 = 1#1) = (b = true) from by decide]
  simp only [Bool.and_eq_true, decide_eq_true_eq]
  omega

/-- What a visit leaves in the staging buffer: the product on its own rows, what it found on the others. -/
theorem outStep_at (v3 : Elt Ideal .f32) (v4 : Vec Ideal S512x2048 .bf16) (v13 : Vec Ideal S1x2048x1792 .fp8e4m3) (v16 : Vec Ideal S1x1x1792 .f32)
    {lo hi : ℕ} (hlo : lo ≤ 512) (hhi : hi ≤ 512) (Y : Vec Ideal S512x1792 .bf16) (r : Fin 512) (j : Fin 1792) :
    outStep v3 v4 v13 v16 (BitVec.ofNat 32 lo) (BitVec.ofNat 32 hi) Y (ix2 r j)
      = if lo ≤ r.val ∧ r.val < hi then k0_pay1 v3 v4 v13 v16 (ix2 r j) else Y (ix2 r j) := by
  have hr := r.isLt
  unfold outStep
  by_cases h : lo = 0 ∧ hi = 512
  · rw [if_pos ((cond1_iff hlo hhi).2 h), if_pos (by omega)]
  · rw [if_neg fun h' => h ((cond1_iff hlo hhi).1 h'), pay2_at, WordCmp.cmpi_sge_ofNat (by omega) (by omega), WordCmp.cmpi_slt_ofNat (by omega) (by omega), WordCmp.andi_ofBool]
    by_cases hi' : lo ≤ r.val ∧ r.val < hi
    · rw [if_pos hi', decide_eq_true hi'.1, decide_eq_true hi'.2]; rfl
    · rw [if_neg hi', show (decide (lo ≤ r.val) && decide (r.val < hi)) = false from by simp only [Bool.and_eq_false_iff, decide_eq_false_iff_not]; omega]; rfl

/-! ## The blocks -/

section
variable (m : (ℓ : Loc nD τ sig) → Buf (Elt Ideal) ℓ) (hg : Ragged (gOf m 0)) (c : Dev nD)

/-- A grid point is its number. -/
theorem coords_val (t : Fin grid0.N) : (grid0.coords t 0).val = t.val := by
  have h := Pipeline.Grid.coords_val t (0 : Fin 1) (S := 1) (B := 51) rfl rfl
  have : t.val < 51 := t.isLt
  omega

/-- The activation block of a visit is its tile. -/
theorem index_1 (t : Fin grid0.N) : ((cfgM m (ok_of m hg)).win 1).index t = ![tileN (sizes (gOf m 0)) t.val, 0] := by
  rw [← coords_val t]; exact transform_1 m hg (grid0.coords t)
/-- The weight block of a visit is that of its group. -/
theorem index_2 (t : Fin grid0.N) : ((cfgM m (ok_of m hg)).win 2).index t = ![eN (sizes (gOf m 0)) t.val, 0, 0] := by
  rw [← coords_val t]; exact transform_2 m hg (grid0.coords t)
/-- The weight-scale block of a visit is that of its group. -/
theorem index_3 (t : Fin grid0.N) : ((cfgM m (ok_of m hg)).win 3).index t = ![eN (sizes (gOf m 0)) t.val, 0, 0] := by
  rw [← coords_val t]; exact transform_3 m hg (grid0.coords t)
/-- The result block of a visit is its tile. -/
theorem index_4 (t : Fin grid0.N) : ((cfgM m (ok_of m hg)).win 4).index t = ![tileN (sizes (gOf m 0)) t.val, 0] := by
  rw [← coords_val t]; exact transform_4 m hg (grid0.coords t)

include hg in
/-- The step's group is one of the four, and its tile's rows lie in the array. -/
theorem eN_lt (t : ℕ) : eN (sizes (gOf m 0)) t < 4 := (expert _ hg.total _).1
include hg in
/-- A row of a tile is a row of the result. -/
theorem row_lt (t : ℕ) (r : Fin 512) : 512 * tileN (sizes (gOf m 0)) t + r.val < 24576 := by
  have := (tile_bounds _ hg.total t).1; have := r.isLt; omega

/-- The activations' block: the tile's rows. -/
theorem block_1 (t : Fin grid0.N) (r : Fin 512) (k : Fin 2048) :
    iblk m (ok_of m hg) c 1 t (ix2 r k) = m ((c : Thread nD τ).loc main_arg0) (ix2 (⟨512 * tileN (sizes (gOf m 0)) t.val + r.val, row_lt m hg t.val r⟩ : Fin 24576) k) := by
  show V m c main_arg0 _ = _
  rw [V_main_arg0]
  refine congrArg _ (funext fun a => Fin.ext ?_)
  refine (Pipeline.Window.rect_emb_val ((cfgM m (ok_of m hg)).win 1) t _ a).trans ?_
  rw [index_1 m hg]
  match a with
  | ⟨0, _⟩ => show tileN _ t.val * 512 + r.val = 512 * tileN _ t.val + r.val; omega
  | ⟨1, _⟩ => show 0 * 2048 + k.val = k.val; omega

/-- The weights' block: the group's weights. -/
theorem block_2 (t : Fin grid0.N) (k : Fin 2048) (j : Fin 1792) :
    iblk m (ok_of m hg) c 2 t (ix3 (0 : Fin 1) k j) = m ((c : Thread nD τ).loc main_arg3) (ix3 (⟨eN (sizes (gOf m 0)) t.val, eN_lt m hg t.val⟩ : Fin 4) k j) := by
  show V m c main_arg3 _ = _
  rw [V_main_arg3]
  refine congrArg _ (funext fun a => Fin.ext ?_)
  refine (Pipeline.Window.rect_emb_val ((cfgM m (ok_of m hg)).win 2) t _ a).trans ?_
  rw [index_2 m hg]
  match a with
  | ⟨0, _⟩ => show eN _ t.val * 1 + 0 = eN _ t.val; omega
  | ⟨1, _⟩ => show 0 * 2048 + k.val = k.val; omega
  | ⟨2, _⟩ => show 0 * 1792 + j.val = j.val; omega

set_option maxHeartbeats 1000000 in
/-- The weight scales as the region finds them: the argument, with an axis of one in the middle. -/
theorem V_ws : V m c main_v72 = shapeCast S4x1x1792 (m ((c : Thread nD τ).loc main_arg4)) shapeCasts_S4x1792_S4x1x1792 := by
  unfold V; after_reads_simp
  rfl

/-- The reshaped weight scales hold the weight scales. -/
theorem V_ws_at (e : Fin 4) (j : Fin 1792) : V m c main_v72 (ix3 e (0 : Fin 1) j) = m ((c : Thread nD τ).loc main_arg4) (ix2 e j) := by
  rw [V_ws]
  pointwise []

/-- The weight scales' block: the group's scales. -/
theorem block_3 (t : Fin grid0.N) (j : Fin 1792) :
    iblk m (ok_of m hg) c 3 t (ix3 (0 : Fin 1) (0 : Fin 1) j) = m ((c : Thread nD τ).loc main_arg4) (ix2 (⟨eN (sizes (gOf m 0)) t.val, eN_lt m hg t.val⟩ : Fin 4) j) := by
  refine Eq.trans ?_ (V_ws_at m c _ j)
  show V m c main_v72 _ = _
  refine congrArg _ (funext fun a => Fin.ext ?_)
  refine (Pipeline.Window.rect_emb_val ((cfgM m (ok_of m hg)).win 3) t _ a).trans ?_
  rw [index_3 m hg]
  match a with
  | ⟨0, _⟩ => show eN _ t.val * 1 + 0 = eN _ t.val; omega
  | ⟨1, _⟩ => rfl
  | ⟨2, _⟩ => show 0 * 1792 + j.val = j.val; omega

/-- The activation scales' block: the whole argument. -/
theorem block_0 (t : Fin grid0.N) (i : S4.Idx) : iblk m (ok_of m hg) c 0 t i = m ((c : Thread nD τ).loc main_arg2) i := by
  show V m c main_arg2 _ = _
  rw [V_main_arg2]
  refine congrArg _ (funext fun a => Fin.ext ?_)
  refine Pipeline.Window.rect_emb_val_of_index_zero ((cfgM m (ok_of m hg)).win 0) t a ?_ _
  match a with
  | ⟨0, _⟩ => rfl

/-- The place of the scale array a visit of group `e` reads. -/
theorem scale_idx {e : ℕ} (he : e < 4) (v : BitVec 32) (hv : v = BitVec.ofNat 32 e) (h : k0_chk1 v) (j) :
    (Rect.unit (s := S4) (k0_off2 v) S1.size (k0_off2_inb v h)).toLoadRect.idx j = ValueIdx.ix1 (⟨e, he⟩ : Fin 4) := by
  funext a
  obtain rfl : a = 0 := Subsingleton.elim _ _
  apply Fin.ext
  have hj : (j 0).val < 1 := (j 0).isLt
  have hn : v.toNat = e := by rw [hv, BitVec.toNat_ofNat]; omega
  show v.toNat + 1 * (j 0).val = e
  omega

/-- The activation scale a visit reads: its group's. -/
theorem scale_at (t : Fin grid0.N) :
    scaleAt (iblk m (ok_of m hg) c 0 t) _ (hyps_of m hg c (grid0.coords t))
      = m ((c : Thread nD τ).loc main_arg2) (ValueIdx.ix1 (⟨eN (sizes (gOf m 0)) t.val, eN_lt m hg t.val⟩ : Fin 4)) := by
  refine (block_0 m hg c t _).trans (congrArg _ (scale_idx (eN_lt m hg t.val) _ ?_ (hyps_of m hg c (grid0.coords t)) _))
  rw [e_word, e_nat m hg, coords_val]

end

end Cert.KernelIdeal.Gen

end
-- ==== Proof.IdealVisits.lean ====
/-
  What the output's staging buffer holds after each visit (the program with exact arithmetic): on the rows of the tile up to the visit's last one,
  the result of the problem; and so, at a visit whose tile is written back, on every row.
-/
module

public import proofs.«01_k».proof.Proof.IdealBlock

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (RDat Window)
open Cert.Tables Cert.Visits Cert.Entry

variable (m : (ℓ : Loc nD τ sig) → Buf (Elt Ideal) ℓ) (hg : Ragged (gOf m 0)) (c : Dev nD)

/-- The result of the problem on what the launch memory holds, at row `R` and column `j`. -/
def resAt (R : Fin 24576) (j : Fin 1792) : EReal :=
  outAt (m ((c : Thread nD τ).loc main_arg0)) (gOf m 0) (m ((c : Thread nD τ).loc main_arg2)) (m ((c : Thread nD τ).loc main_arg3)) (m ((c : Thread nD τ).loc main_arg4)) R j

/-- The tile of step `t` at its row `r`, in the whole array. -/
abbrev rowAt (t : ℕ) (r : Fin 512) : Fin 24576 := ⟨512 * tileN (sizes (gOf m 0)) t + r.val, row_lt m hg t r⟩

/-- A visit leaves the problem's result on its own rows, and on the others what it found. -/
theorem visit_at (t : Fin grid0.N) (Y : Vec Ideal S512x1792 .bf16) (r : Fin 512) (j : Fin 1792) :
    visit m (ok_of m hg) (hyps_of m hg) c t Y (ix2 r j)
      = if loN (sizes (gOf m 0)) t.val ≤ r.val ∧ r.val < hiN (sizes (gOf m 0)) t.val then resAt m c (rowAt m hg t.val r) j else Y (ix2 r j) := by
  have hlo : loN (sizes (gOf m 0)) t.val ≤ 512 := Nat.min_le_right _ _
  have hhi : hiN (sizes (gOf m 0)) t.val ≤ 512 := Nat.min_le_right _ _
  have e1 : wordAt c tbM0_2 (grid0.coords t) (tbl m 2) = BitVec.ofNat 32 (loN (sizes (gOf m 0)) t.val) := by
    rw [lo_word, ← coords_val t]; exact loW_ap hg ⟨(grid0.coords t 0).val, pt_lt _⟩
  have e2 : wordAt c tbM0_3 (grid0.coords t) (tbl m 3) = BitVec.ofNat 32 (hiN (sizes (gOf m 0)) t.val) := by
    rw [hi_word, ← coords_val t]; exact hiW_ap hg ⟨(grid0.coords t 0).val, pt_lt _⟩
  unfold visit
  rw [e1, e2]
  refine (outStep_at _ _ _ _ hlo hhi Y r j).trans ?_
  by_cases h : loN (sizes (gOf m 0)) t.val ≤ r.val ∧ r.val < hiN (sizes (gOf m 0)) t.val
  · rw [if_pos h, if_pos h]
    refine (pay1_at _ _ _ _ r j).trans ?_
    have hrow := row_mem _ hg.total t.val r.val h.1 h.2
    have hgr : groupOf (gOf m 0) (512 * tileN (sizes (gOf m 0)) t.val + r.val) = ⟨eN (sizes (gOf m 0)) t.val, eN_lt m hg t.val⟩ :=
      Fin.ext (expert_eq _ (eN_lt m hg t.val) hrow.1 hrow.2)
    unfold resAt outAt
    rw [hgr]
    exact entry_congr (funext fun k => block_1 m hg c t r k) (scale_at m hg c t) (funext fun k => block_2 m hg c t k j) (block_3 m hg c t j)
  · rw [if_neg h, if_neg h]

/-- Two steps in a row on one tile: the first does not write back. -/
theorem flush_same (n : ℕ) (hn : n + 1 < grid0.N) (h : tileN (sizes (gOf m 0)) (n + 1) = tileN (sizes (gOf m 0)) n) :
    ((cfgM m (ok_of m hg)).win 4).flush ⟨n, Nat.lt_of_succ_lt hn⟩ = false := by
  refine Bool.eq_false_iff.2 fun hf => ?_
  rcases (Window.flush_out ((cfgM m (ok_of m hg)).win 4) rfl ⟨n, Nat.lt_of_succ_lt hn⟩).1 hf with h' | ⟨hn', h'⟩
  · exact absurd h' (Nat.ne_of_lt hn)
  · refine h' ?_
    rw [index_4 m hg, index_4 m hg]
    show ![tileN _ (n + 1), 0] = ![tileN _ n, 0]
    rw [h]

/-- A step that writes back has filled its tile to the last row. -/
theorem full_of_flush (t : Fin grid0.N) (hf : ((cfgM m (ok_of m hg)).win 4).flush t = true) : hiN (sizes (gOf m 0)) t.val = 512 := by
  have hN : t.val < 51 := t.isLt
  rcases (Window.flush_out ((cfgM m (ok_of m hg)).win 4) rfl t).1 hf with h' | ⟨hn', h'⟩
  · have : t.val = 50 := by
      have : t.val + 1 = 51 := h'
      omega
    rw [this]; exact (last_step _ hg.total).2
  · have hne : tileN (sizes (gOf m 0)) (t.val + 1) ≠ tileN (sizes (gOf m 0)) t.val := fun h => h' (by
      rw [index_4 m hg, index_4 m hg]
      show ![tileN _ (t.val + 1), 0] = ![tileN _ t.val, 0]
      rw [h])
    rcases next_step _ hg.total t.val with h | h | h
    · exact absurd (same_step _ h).2.1 hne
    · exact absurd h.1 hne
    · exact h.2.1

/-- After step `n` the staging buffer holds the problem's result on the tile's rows up to the step's last one. -/
theorem leaves_rows (n : ℕ) : ∀ (hn : n < grid0.N) (X : Vec Ideal S512x1792 .bf16),
    (rdat m (ok_of m hg) (hyps_of m hg) c).Leaves 4 ⟨n, hn⟩ X →
    ∀ (r : Fin 512) (j : Fin 1792), r.val < hiN (sizes (gOf m 0)) n → X (ix2 r j) = resAt m c (rowAt m hg n r) j := by
  induction n with
  | zero =>
    rintro hn X ⟨Y, -, hX⟩ r j hr
    have hX' : X = visit m (ok_of m hg) (hyps_of m hg) c ⟨0, hn⟩ Y := hX
    have h0 := (first_step _ hg.total).2
    rw [hX']
    refine (visit_at m hg c ⟨0, hn⟩ Y r j).trans ?_
    exact if_pos ⟨by show loN _ 0 ≤ r.val; omega, hr⟩
  | succ n ih =>
    rintro hn X ⟨Y, hY, hX⟩ r j hr
    have hX' : X = visit m (ok_of m hg) (hyps_of m hg) c ⟨n + 1, hn⟩ Y := hX
    rw [hX']
    refine (visit_at m hg c ⟨n + 1, hn⟩ Y r j).trans ?_
    by_cases hlo : loN (sizes (gOf m 0)) (n + 1) ≤ r.val
    · exact if_pos ⟨hlo, hr⟩
    · refine (if_neg fun h => hlo h.1).trans ?_
      have key : tileN (sizes (gOf m 0)) (n + 1) = tileN (sizes (gOf m 0)) n ∧ r.val < hiN (sizes (gOf m 0)) n := by
        rcases next_step _ hg.total n with h | h | h
        · obtain ⟨-, h1, h2, h3⟩ := same_step _ h
          exact ⟨h1, by omega⟩
        · exact ⟨h.1, by omega⟩
        · exact absurd (by rw [h.2.2]; exact Nat.zero_le _) hlo
      have hl : (rdat m (ok_of m hg) (hyps_of m hg) c).Leaves 4 ⟨n, Nat.lt_of_succ_lt hn⟩ Y := by
        rcases ((rdat m (ok_of m hg) (hyps_of m hg) c).finds_of_pos (Window.fetch_out _ rfl _) (Nat.succ_ne_zero n) Y).1 hY with h | h
        · exact absurd (h.symm.trans (flush_same m hg n hn key.1)) (by decide)
        · exact h
      refine (ih (Nat.lt_of_succ_lt hn) Y hl r j key.2).trans ?_
      refine congrArg (fun q => resAt m c q j) (Fin.ext ?_)
      show 512 * tileN _ n + r.val = 512 * tileN _ (n + 1) + r.val
      rw [key.1]

/-- So what is written back is the problem's result on the whole tile. -/
theorem leaves_flush (t : Fin grid0.N) (hf : ((cfgM m (ok_of m hg)).win 4).flush t = true) (X : Vec Ideal S512x1792 .bf16)
    (hX : (rdat m (ok_of m hg) (hyps_of m hg) c).Leaves 4 t X) (r : Fin 512) (j : Fin 1792) : X (ix2 r j) = resAt m c (rowAt m hg t.val r) j :=
  leaves_rows m hg c t.val t.isLt X hX r j (by rw [full_of_flush m hg t hf]; exact r.isLt)

end Cert.KernelIdeal.Gen

end
-- ==== Proof.IdealArray.lean ====
/-
  What the kernel's result array holds after the run (the program with exact arithmetic): the problem's result, at every index.
-/
module

public import proofs.«01_k».proof.Proof.IdealVisits
public import Idealize.ShloMosaic.Lib.Pipeline.Covers

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (RDat Window)
open Cert.Tables Cert.Visits Cert.Entry

variable (m : (ℓ : Loc nD τ sig) → Buf (Elt Ideal) ℓ) (hg : Ragged (gOf m 0)) (c : Dev nD)

/-- An element of the output's block at step `t`, in the whole array. -/
theorem emb_4 (t : Fin grid0.N) (r : Fin 512) (j : Fin 1792) :
    (((cfgM m (ok_of m hg)).win 4).blk t).view.emb (ix2 r j) = (ix2 (rowAt m hg t.val r) j : S24576x1792.Idx) := by
  refine funext fun a => Fin.ext ?_
  refine (Pipeline.Window.rect_emb_val ((cfgM m (ok_of m hg)).win 4) t _ a).trans ?_
  rw [index_4 m hg]
  match a with
  | ⟨0, _⟩ => show tileN _ t.val * 512 + r.val = 512 * tileN _ t.val + r.val; omega
  | ⟨1, _⟩ => show 0 * 1792 + j.val = j.val; omega

/-- A row in a tile, by its place in it. -/
theorem row_split (t : ℕ) (R : Fin 24576) (h : R.val / 512 = tileN (sizes (gOf m 0)) t) :
    R = rowAt m hg t (⟨R.val % 512, Nat.mod_lt _ (by decide)⟩ : Fin 512) := by
  apply Fin.ext
  show R.val = 512 * tileN (sizes (gOf m 0)) t + R.val % 512
  omega

/-- An index of a tile, by its two coordinates. -/
theorem split_512 (y : S512x1792.Idx) : ∃ (r : Fin 512) (j : Fin 1792), y = ix2 r j := ⟨y 0, y 1, by
    funext a
    match a with
    | ⟨0, _⟩ => rfl
    | ⟨1, _⟩ => rfl⟩

/-- A row outside a step's tile is in no place of its block. -/
theorem not_mem_4 (t : Fin grid0.N) (R : Fin 24576) (j : Fin 1792) (h : R.val / 512 ≠ tileN (sizes (gOf m 0)) t.val) :
    (ix2 R j : S24576x1792.Idx) ∉ (((cfgM m (ok_of m hg)).win 4).blk t).view.setOn Finset.univ := by
  intro hm
  rw [View.setOn_univ] at hm
  obtain ⟨y, -, hy⟩ := Finset.mem_map.1 hm
  obtain ⟨r, j', rfl⟩ := split_512 y
  have h0 := congrArg (fun i : S24576x1792.Idx => (i 0).val) ((emb_4 m hg t r j').symm.trans hy)
  have h1 : 512 * tileN (sizes (gOf m 0)) t.val + r.val = R.val := h0
  have := r.isLt
  omega

/-- A write-back leaves the problem's result on its tile. -/
theorem write_in (t : Fin grid0.N) (hf : ((cfgM m (ok_of m hg)).win 4).flush t = true) (G₀ : S24576x1792.Idx → EReal) (X : Vec Ideal S512x1792 .bf16)
    (hX : (rdat m (ok_of m hg) (hyps_of m hg) c).Leaves 4 t X) (R : Fin 24576) (j : Fin 1792) (hR : R.val / 512 = tileN (sizes (gOf m 0)) t.val) :
    View.write (Elt Ideal) (((cfgM m (ok_of m hg)).win 4).blk t).view G₀ (((cfgM m (ok_of m hg)).win 4).cut ((cfgM m (ok_of m hg)).grid.coords t) X) Finset.univ
      (ix2 R j : S24576x1792.Idx) = resAt m c R j := by
  obtain ⟨r, rfl⟩ : ∃ r : Fin 512, R = rowAt m hg t.val r := ⟨_, row_split m hg t.val R hR⟩
  rw [← emb_4 m hg t r j]
  refine (View.write_emb_of_mem _ _ (Finset.mem_univ _)).trans ?_
  exact leaves_flush m hg c t hf X hX r j

/-- After the write-backs of the first `n` steps, every tile among them that was written back holds the problem's result. -/
theorem arr_at (n : ℕ) : n ≤ grid0.N → ∀ G : S24576x1792.Idx → EReal, (rdat m (ok_of m hg) (hyps_of m hg) c).ArrAt 4 n G →
    ∀ (R : Fin 24576) (j : Fin 1792), (∃ t : Fin grid0.N, t.val < n ∧ ((cfgM m (ok_of m hg)).win 4).flush t = true ∧ R.val / 512 = tileN (sizes (gOf m 0)) t.val) →
    G (ix2 R j) = resAt m c R j := by
  induction n with
  | zero => rintro - G - R j ⟨t, ht, -⟩; exact absurd ht (Nat.not_lt_zero _)
  | succ n ih =>
    rintro hn G hG R j ⟨t, ht, hf, htile⟩
    have hsucc := (rdat m (ok_of m hg) (hyps_of m hg) c).ArrAt_succ 4 (⟨n, hn⟩ : Fin grid0.N)
    by_cases hfn : ((cfgM m (ok_of m hg)).win 4).flush (⟨n, hn⟩ : Fin grid0.N) = true
    · rw [if_pos hfn] at hsucc
      obtain ⟨G₀, X, hG₀, hX, rfl⟩ : (rdat m (ok_of m hg) (hyps_of m hg) c).ArrStep 4 (⟨n, hn⟩ : Fin grid0.N) _ G := cast (congrFun hsucc G) hG
      by_cases hR : R.val / 512 = tileN (sizes (gOf m 0)) n
      · exact write_in m hg c ⟨n, hn⟩ hfn G₀ X hX R j hR
      · refine (View.write_of_not_mem _ _ _ (not_mem_4 m hg ⟨n, hn⟩ R j hR)).trans ?_
        refine ih (Nat.le_of_succ_le hn) G₀ hG₀ R j ⟨t, ?_, hf, htile⟩
        have : t.val ≠ n := fun e => hR (by rw [← e]; exact htile)
        omega
    · rw [if_neg hfn] at hsucc
      refine ih (Nat.le_of_succ_le hn) G (cast (congrFun hsucc G) hG) R j ⟨t, ?_, hf, htile⟩
      have : t.val ≠ n := fun e => hfn (by rw [← hf]; exact congrArg _ (Fin.ext e.symm))
      omega

/-- Every tile up to a step's is the tile of a step up to it. -/
theorem visited (g : ℕ → ℕ) (hs : endN g 3 = 24576) (v : ℕ) : ∀ k ≤ tileN g v, ∃ v' ≤ v, tileN g v' = k := by
  induction v with
  | zero => intro k hk; rw [(first_step g hs).1] at hk; exact ⟨0, le_rfl, by rw [(first_step g hs).1]; omega⟩
  | succ v ih =>
    intro k hk
    by_cases h : k ≤ tileN g v
    · obtain ⟨v', h1, h2⟩ := ih k h
      exact ⟨v', by omega, h2⟩
    · refine ⟨v + 1, le_rfl, ?_⟩
      rcases next_step g hs v with h' | h' | h'
      · have := (same_step g h').2.1; omega
      · omega
      · omega

/-- Every row's tile is written back at some step. -/
theorem covered (R : Fin 24576) : ∃ t : Fin grid0.N, t.val < grid0.N ∧ ((cfgM m (ok_of m hg)).win 4).flush t = true ∧ R.val / 512 = tileN (sizes (gOf m 0)) t.val := by
  have hR := R.isLt
  obtain ⟨v, hv, ht⟩ := visited (sizes (gOf m 0)) hg.total 50 (R.val / 512) (by rw [(last_step _ hg.total).1]; omega)
  have hvN : v < grid0.N := by show v < 51; omega
  obtain ⟨t, -, hf, hi⟩ := Window.exists_flush_same_index ((cfgM m (ok_of m hg)).win 4) rfl (⟨v, hvN⟩ : Fin grid0.N)
  refine ⟨t, t.isLt, hf, ?_⟩
  rw [index_4 m hg, index_4 m hg] at hi
  have h0 : tileN (sizes (gOf m 0)) t.val = tileN (sizes (gOf m 0)) v := congrFun hi (0 : Fin 2)
  omega

/-- The result array after the run. -/
theorem array_eq (G : S24576x1792.Idx → EReal) (hG : (rdat m (ok_of m hg) (hyps_of m hg) c).ArrAt 4 (cfgM m (ok_of m hg)).N G) :
    G = out (m ((c : Thread nD τ).loc main_arg0)) (gOf m 0) (m ((c : Thread nD τ).loc main_arg2)) (m ((c : Thread nD τ).loc main_arg3)) (m ((c : Thread nD τ).loc main_arg4)) := by
  funext i
  have hi : i = (ix2 (i 0 : Fin 24576) (i 1 : Fin 1792) : S24576x1792.Idx) := by
    funext a
    match a with
    | ⟨0, _⟩ => rfl
    | ⟨1, _⟩ => rfl
  exact (congrArg G hi).trans (arr_at m hg c _ le_rfl G hG (i 0) (i 1) (covered m hg _))

include hg in
/-- The kernel's run: its result array holds the problem's result, its arguments are unchanged. -/
theorem run_value (ρ : Dev nD → PrngReg) :
    θ_run defs (onTc (τ := τ) (main (F := Ideal))) ⟨m, fun _ => 0, ρ⟩ fun r => ∀ c : Dev nD,
      r.2.mem ((c : Thread nD τ).loc main_v73)
        = out (m ((c : Thread nD τ).loc main_arg0)) (gOf m 0) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨array_eq m hg c _ ((h.1 c).1 4), args_of m (ok_of m hg) (hyps_of m hg) h.1 c⟩)
    (run_main m ρ (ok_of m hg) (hyps_of m hg))

end Cert.KernelIdeal.Gen

end
-- ==== Proof.RefExpert.lean ====
/-
  The row-to-group table of the reference: what its host operations compute from the group sizes, written as functions of the group sizes alone,
  and each entry as the word of the row's group.
-/
module

public import proofs.«01_k».proof.Proof.Gen.ReferenceIdeal
public import proofs.«01_k».proof.Proof.Tables
public import proofs.«01_k».proof.Proof.Experts
public import Idealize.ShloMosaic.Lib.Routing.OpsOne
public import Idealize.ShloMosaic.Lib.ReduceAll
public import Idealize.ShloMosaic.Lib.Pipeline.Value

@[expose] public section

noncomputable section

namespace Cert.RefTables

open Idealize.ShloMosaic Idealize.ShloMosaic.ValueIdx Idealize.ShloMosaic.WordCmp Idealize.ShloMosaic.Routing
open Cert.ReferenceIdeal Cert.ReferenceIdeal.Gen
open Cert.Visits
open Cert.Tables (sizes Ragged g_ap start_lt size_le)

/-! ## A scatter that counts -/

/-- Update `i` of a scatter of `M` scalars into a vector of `N`, one index each, lands at `x` exactly when its index word, read signed, is `x`. -/
theorem lands {M N : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ValueIdx.ix1 i) idx = some (ValueIdx.ix1 x) ↔ (idx (ix2 i (0 : Fin 1))).toInt = (x.val : Int) := by
  have hm : (0 : Fin 1) ∈ d.scatterDimsToOperandDims := by rw [hsd]; exact List.mem_singleton.2 rfl
  have hwin : d.window (ValueIdx.ix1 i) 0 = 0 := by
    unfold ScatterDims.window
    rw [dif_neg fun h => (of_decide_eq_true (List.mem_filter.1 h).2) (by rw [hiw]; exact List.mem_singleton.2 rfl)]
  have hstart : d.start (ValueIdx.ix1 i) idx 0 = (idx (ix2 i (0 : Fin 1))).toInt := by
    unfold ScatterDims.start
    rw [dif_pos hm]
    have hsi : d.siIdx (ValueIdx.ix1 i) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 1, (ValueIdx.ix1 i X).val = i.val := fun X => by
          obtain rfl : X = 0 := Subsingleton.elim _ _
          rfl
        exact e _
      | ⟨1, _⟩ =>
        unfold ScatterDims.siIdx
        rw [dif_pos (by rw [hivd])]
        show List.idxOf (0 : Fin 1) d.scatterDimsToOperandDims = 0
        rw [hsd]; simp
    rw [hsi]
  refine (resultIdx?_ix1 d (ValueIdx.ix1 i) idx x).trans ?_
  rw [hstart, hwin]
  simp

/-- A scatter of `M` ones into a vector of zeros, adding, counts at each entry the updates whose index is that entry. -/
theorem scatter_count {M N : Nat} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (gi : Nat → Nat)
    (hg : ∀ i : Fin M, idx (ix2 i (0 : Fin 1)) = BitVec.ofNat 32 (gi i.val)) (hg31 : ∀ i : Fin M, gi i.val < 2 ^ 31) (x : Fin N) :
    Host.scatter d IntOp.addi x0 idx upd (ValueIdx.ix1 x) = BitVec.ofNat 32 (Nat.count (fun i => gi i = x.val) M) := by
  have hiff : ∀ i : Fin M, d.resultIdx? (ValueIdx.ix1 i) idx = some (ValueIdx.ix1 x) ↔ gi i.val = x.val := fun i => by
    rw [lands d hiw hsd hivd idx i x, hg i, StableHlo.Predicate.toInt_ofNat_small _ (hg31 i)]
    omega
  unfold Host.scatter
  refine (foldl_count _ (ValueIdx.ix1 x) (fun n => decide (gi n.val = x.val)) (fun r n => ?_) _ x0 0 (hx0 _)).trans ?_
  · rw [symm1]
    have hi := hiff (n.cast (numel1 M))
    change _ ↔ gi n.val = x.val at hi
    generalize d.resultIdx? (ValueIdx.ix1 (n.cast (numel1 M))) idx = o at hi ⊢
    cases o with
    | none =>
      dsimp only
      rw [if_neg fun h => by have := hi.2 (of_decide_eq_true h); cases this]
    | some k =>
      dsimp only
      by_cases e : gi n.val = x.val
      · have hk : k = ValueIdx.ix1 x := Option.some.inj (hi.2 e)
        rw [hk, if_pos rfl, hupd, if_pos (decide_eq_true e)]
      · rw [if_neg fun h : ValueIdx.ix1 x = k => e (hi.1 (congrArg some h.symm)), if_neg fun h => e (of_decide_eq_true h)]
  · rw [Nat.zero_add, countP_finRange _ (fun i => gi i = x.val), numel1]

/-! ## The host operations -/

/-- A scalar word at every group. -/
def fill4 (w : BitVec 32) : IVec S4 32 := broadcastInDim S4 ![] bcast_S_S4 (constantI S_ 32 w)
/-- A scalar word at every row. -/
def fillR (w : BitVec 32) : IVec S24576 32 := broadcastInDim S24576 ![] bcast_S_S24576 (constantI S_ 32 w)
/-- The group sizes moved on by one group, the last one first. -/
def rollW (g : IVec S4 32) : IVec S4 32 :=
  concatenate S4 0 [⟨S1, extractStridedSlice S1 ![3] g slices_S4_S1_3⟩, ⟨S3, extractStridedSlice S3 ![0] g slices_S4_S3_0⟩] concatenates_S1_S3_S4_d0
/-- The same with zero first. -/
def shiftW (g : IVec S4 32) : IVec S4 32 :=
  Host.scatter scatter_S4_S1_S__n_0_0_0 (fun _ b => b) (rollW g) (broadcastInDim S1 ![] bcast_S_S1 (constantI S_ 32 0#32)) (constantI S_ 32 0#32)
/-- Each group's first row. -/
def startW (g : IVec S4 32) : IVec S4 32 :=
  Host.reduceWindow IntOp.addi ![4] ![1] ![3] ![0] (shiftW g) (broadcastInDim S_ ![] bcast_S_S_ (constantI S_ 32 0#32)) reduceWindows_S4_S4_w4s1p3_0 h_S_
/-- How many groups start at each row. -/
def histW (g : IVec S4 32) : IVec S24576 32 :=
  Host.scatter scatter_S24576_S4x1_S4_n_0_0_1 IntOp.addi (fillR 0#32)
    (broadcastInDim S4x1 ![0] bcast_S4_S4x1_0 (select (cmpi .slt (startW g) (fill4 0#32)) (addi (startW g) (fill4 24576#32)) (startW g))) (fill4 1#32)
/-- The number of groups that start at or before each row, less one. -/
def rankW (g : IVec S4 32) : IVec S24576 32 :=
  subi (Host.reduceWindow IntOp.addi ![24576] ![1] ![24575] ![0] (histW g) (broadcastInDim S_ ![] bcast_S_S_ (constantI S_ 32 0#32))
    reduceWindows_S24576_S24576_w24576s1p24575_0 h_S_) (fillR 1#32)
/-- A table of group numbers as a column, a negative one counted from the end. -/
def colW (r : IVec S24576 32) : IVec S24576x1 32 :=
  broadcastInDim S24576x1 ![0] bcast_S24576_S24576x1_0 (select (cmpi .slt r (fillR 0#32)) (addi r (fillR 4#32)) r)
/-- Where a column of group numbers names one of the four. -/
def insideW (v : IVec S24576x1 32) : IVec S24576x1 1 :=
  andi (cmpi .sge v (broadcastInDim S24576x1 ![] bcast_S_S24576x1 (constantI S_ 32 0#32)))
    (cmpi .sle v (broadcastInDim S24576x1 ![0, 1] bcast_S1x1_S24576x1_0_1 (broadcastInDim S1x1 ![1] bcast_S1_S1x1_1 (constantI S1 32 3#32))))
/-- Each row's group. -/
def expertW (g : IVec S4 32) : IVec S24576 32 :=
  select (Host.reduce IntOp.andi (insideW (colW (rankW g))) (constantI S_ 1 1#1) reducesTo_S24576x1_S24576_d1 h_S_)
    (Host.gather gather_S4_S24576x1_S24576_n_0_n_n_0_1_1 (iotaInDim S4 32 0) (colW (rankW g)))
    (broadcastInDim S24576 ![] bcast_S_S24576 (constantI S_ 32 2147483648#32))

/-! ## Their entries -/

variable {g : IVec S4 32}

/-- A constant of four words at an index. -/
theorem fill4_ap (w : BitVec 32) (i : S4.Idx) : fill4 w i = w := rfl
/-- A constant of one word per row at an index. -/
theorem fillR_ap (w : BitVec 32) (i : S24576.Idx) : fillR w i = w := rfl

/-- After the first group, the moved table holds the size of the group before. -/
theorem rollW_ap (k : Fin 3) : rollW g (ValueIdx.ix1 (⟨k.val + 1, by omega⟩ : Fin 4)) = g (ValueIdx.ix1 (⟨k.val, by omega⟩ : Fin 4)) := by
  unfold rollW
  refine (concatenate_pair_apply_right (s₁ := S1) (s₂ := S3) (0 : Fin 1) _ _ concatenates_S1_S3_S4_d0
    (ValueIdx.ix1 (⟨k.val + 1, by omega⟩ : Fin 4)) rfl rfl (ValueIdx.ix1 k) (fun b hb => ?_) rfl).trans ?_
  · exact (hb (Subsingleton.elim _ _)).elim
  · refine (slice1 0 g slices_S4_S3_0 k (by omega)).trans ?_
    refine congrArg (fun q : Fin 4 => g (ValueIdx.ix1 q)) (Fin.ext ?_)
    show 0 + k.val = k.val
    omega

/-- The size of the group before, and zero before the first. -/
def prevN (g : ℕ → ℕ) (k : ℕ) : ℕ := if k = 0 then 0 else g (k - 1)

/-- The shifted sizes: entry `k` is the size of the group before `k`. -/
theorem shiftW_ap (k : Fin 4) : shiftW g (ValueIdx.ix1 k) = BitVec.ofNat 32 (prevN (sizes g) k.val) := by
  unfold shiftW
  refine (scatter_one (N := 4) scatter_S4_S1_S__n_0_0_0 rfl rfl _ _ _ (0 : Fin 4) (by decide) rfl k).trans ?_
  unfold prevN
  by_cases h : k = 0
  · subst h; rfl
  · have h0 : k.val ≠ 0 := fun e => h (Fin.ext e)
    rw [if_neg h, if_neg h0]
    have := k.isLt
    have hr := rollW_ap (g := g) ⟨k.val - 1, by omega⟩
    simp only at hr
    have hk : (⟨k.val - 1 + 1, by omega⟩ : Fin 4) = k := Fin.ext (by show k.val - 1 + 1 = k.val; omega)
    rw [hk] at hr
    rw [hr]
    exact g_ap (g := g) ⟨k.val - 1, by omega⟩

/-- The sizes before group `k` sum to its start. -/
theorem sum_prev (g : ℕ → ℕ) (k : ℕ) : ((List.range (k + 1)).map (prevN g)).sum = startN g k := by
  have h := start_add g k
  induction k with
  | zero => rw [startN_0]; rfl
  | succ k ih =>
    have hk := start_add g k
    rw [List.range_succ, List.map_append, List.sum_append, ih hk]
    have he : endN g (k + 1) = endN g k + g (k + 1) := by
      unfold endN
      rw [List.range_succ (n := k + 1), List.map_append, List.sum_append]
      simp
    have hp : prevN g (k + 1) = g k := by unfold prevN; rw [if_neg (Nat.succ_ne_zero k)]; rfl
    simp only [List.map_cons, List.map_nil, List.sum_cons, List.sum_nil, hp]
    omega

/-- The running sum of the shifted sizes holds the starts. -/
theorem startW_ap (k : Fin 4) : startW g (ValueIdx.ix1 k) = BitVec.ofNat 32 (startN (sizes g) k.val) := by
  refine (cumsum1 (N := 4) (Nm1 := 3) rfl (shiftW g) (prevN (sizes g)) shiftW_ap _ rfl reduceWindows_S4_S4_w4s1p3_0 h_S_ k).trans ?_
  rw [sum_prev]

/-- The histogram of the starts: how many groups start at a row. -/
theorem histW_ap (hg : Ragged g) (R : Fin 24576) :
    histW g (ValueIdx.ix1 R) = BitVec.ofNat 32 (Nat.count (fun k => startN (sizes g) k = R.val) 4) := by
  refine scatter_count (M := 4) (N := 24576) scatter_S24576_S4x1_S4_n_0_0_1 rfl rfl rfl _ (fun _ => rfl) _ _ (fun _ => rfl) (startN (sizes g)) (fun i => ?_) (fun i => ?_) R
  · have h := start_lt hg i
    rw [bcCol, select_at, cmpi_at, fill4_ap, startW_ap]
    refine wrap_of_lt (w := 32) _ _ ?_
    rw [BitVec.toNat_ofNat]
    omega
  · have h := start_lt hg i
    omega

/-- The running sum of the histogram, less one, is the group of a row. -/
theorem rankW_ap (hg : Ragged g) (R : Fin 24576) : rankW g (ValueIdx.ix1 R) = BitVec.ofNat 32 (expertN (sizes g) R.val) := by
  unfold rankW
  rw [subi_ap, fillR_ap, cumsum1 (N := 24576) (Nm1 := 24575) rfl (histW g) (fun r => Nat.count (fun k => startN (sizes g) k = r) 4) (histW_ap hg) _ rfl reduceWindows_S24576_S24576_w24576s1p24575_0 h_S_ R,
    sum_starts, show (1#32 : BitVec 32) = BitVec.ofNat 32 1 from rfl, ofNat32_sub (starts_pos _ _)]
  rfl

/-- A table of group numbers of the four, as a column, is itself. -/
theorem colW_ap (r : IVec S24576 32) (R : Fin 24576) {e : ℕ} (he : e < 4) (hr : r (ValueIdx.ix1 R) = BitVec.ofNat 32 e) :
    colW r (ix2 R (0 : Fin 1)) = BitVec.ofNat 32 e := by
  unfold colW
  rw [bcCol, select_at, cmpi_at, fillR_ap, hr]
  refine wrap_of_lt (w := 32) _ _ ?_
  rw [BitVec.toNat_ofNat]
  omega

/-- Every group number passes the bounds test of the gather. -/
theorem insideW_one (v : IVec S24576x1 32) (hv : ∀ R : Fin 24576, ∃ e, e < 4 ∧ v (ix2 R (0 : Fin 1)) = BitVec.ofNat 32 e) (i : S24576x1.Idx) : insideW v i = 1#1 := by
  obtain ⟨R, z, rfl⟩ : ∃ (R : Fin 24576) (z : Fin 1), i = ix2 R z := ⟨i 0, i 1, by
    funext a
    match a with
    | ⟨0, _⟩ => rfl
    | ⟨1, _⟩ => rfl⟩
  obtain rfl : z = 0 := Subsingleton.elim _ _
  obtain ⟨e, he, hve⟩ := hv R
  show IntOp.andi (IntOp.cmpi .sge (v (ix2 R (0 : Fin 1))) 0#32) (IntOp.cmpi .sle (v (ix2 R (0 : Fin 1))) 3#32) = 1#1
  rw [hve]
  interval_cases e <;> rfl

/-- The group words of the reference are the groups of the rows. -/
theorem expertW_ap (hg : Ragged g) (R : Fin 24576) : expertW g (ValueIdx.ix1 R) = BitVec.ofNat 32 (expertN (sizes g) R.val) := by
  have hl := expert_lt (sizes g) R.val
  unfold expertW
  rw [select_at, Host.reduce_andi_one _ _ _ _ _ rfl (insideW_one _ fun R => ⟨_, expert_lt (sizes g) R.val, colW_ap _ R (expert_lt (sizes g) R.val) (rankW_ap hg R)⟩)]
  refine (show Scalar.select (1#1 : BitVec 1) (Host.gather gather_S4_S24576x1_S24576_n_0_n_n_0_1_1 (iotaInDim S4 32 0) (colW (rankW g)) (ValueIdx.ix1 R)) _ = _ from rfl).trans ?_
  exact (take_ap (N := 4) (n := 24576) gather_S4_S24576x1_S24576_n_0_n_n_0_1_1 rfl rfl rfl rfl (iotaInDim S4 32 0) _ R hl (by omega) (colW_ap _ R hl (rankW_ap hg R))).trans rfl

end Cert.RefTables
-- ==== Proof.RefReads.lean ====
/-
  What the reference's body is handed: each row's group, its activation scale and its weight scales, read off the arguments.
-/
module

public import proofs.«01_k».proof.Proof.Gen.ReferenceIdeal.Frame
public import proofs.«01_k».proof.Proof.RefExpert
public import proofs.«01_k».proof.Proof.Entry
public import Idealize.ShloMosaic.Lib.StableHlo.ReadAt
public import Idealize.ShloMosaic.Lib.Tactic

@[expose] public section

set_option maxRecDepth 16384

noncomputable section

namespace Cert.ReferenceIdeal.Gen

open Idealize.ShloMosaic Idealize.ShloMosaic.TcCoe Idealize.ShloMosaic.Tactic Idealize.ShloMosaic.Routing
open Idealize.SL.Sem
open Cert.RefTables Cert.Visits Cert.Entry
open Cert.Tables (sizes Ragged)

variable (m : (ℓ : Loc nD τ sig) → Buf (Elt Ideal) ℓ) (c : Dev nD)

/-- The group sizes the reference is launched with. -/
abbrev gOf : IVec S4 32 := m ((c : Thread nD τ).loc main_arg1)

set_option maxHeartbeats 1000000 in
/-- The column of the rows' groups. -/
theorem V_group : V m c main_v25 = broadcastInDim S24576x1 ![0] bcast_S24576_S24576x1_0 (expertW (gOf m c)) := by
  unfold V; after_reads_simp
  simp only [StableHlo.TRef.ofBuf_toBuf]
  simp only [StableHlo.TRef.ofBuf, StableHlo.TRef.toBuf, cast_eq, id]
  rfl
set_option maxHeartbeats 1000000 in
/-- The column of the rows' activation scales. -/
theorem V_scale : V m c main_v26 = broadcastInDim S24576x1 ![0] bcast_S24576_S24576x1_0
    (Host.gather gather_S4_S24576x1_S24576_n_0_n_n_0_1_1 (m ((c : Thread nD τ).loc main_arg2)) (colW (expertW (gOf m c)))) := by
  unfold V; after_reads_simp
  simp only [StableHlo.TRef.ofBuf_toBuf]
  simp only [StableHlo.TRef.ofBuf, StableHlo.TRef.toBuf, cast_eq, id]
  rfl
set_option maxHeartbeats 1000000 in
/-- The rows' weight scales. -/
theorem V_wscale : V m c main_v33 = Host.gather gather_S4x1792_S24576x1_S24576x1792_1_0_n_n_0_1_11792 (m ((c : Thread nD τ).loc main_arg4)) (colW (expertW (gOf m c))) := by
  unfold V; after_reads_simp
  simp only [StableHlo.TRef.ofBuf_toBuf]
  simp only [StableHlo.TRef.ofBuf, StableHlo.TRef.toBuf, cast_eq, id]
  rfl

section
variable (hg : Ragged (gOf m c))
include hg

/-- Each row's group. -/
theorem group_at (R : Fin 24576) : V m c main_v25 (ix2 R (0 : Fin 1)) = BitVec.ofNat 32 (groupOf (gOf m c) R.val).val := by
  rw [V_group]
  exact (bcCol (n := 24576) bcast_S24576_S24576x1_0 _ R).trans (expertW_ap hg R)

/-- Each row's activation scale: its group's. -/
theorem scale_at (R : Fin 24576) : V m c main_v26 (ix2 R (0 : Fin 1)) = m ((c : Thread nD τ).loc main_arg2) (ValueIdx.ix1 (groupOf (gOf m c) R.val)) := by
  have hl := expert_lt (sizes (gOf m c)) R.val
  rw [V_scale]
  refine (bcCol (n := 24576) bcast_S24576_S24576x1_0 _ R).trans ?_
  exact take_ap (N := 4) (n := 24576) gather_S4_S24576x1_S24576_n_0_n_n_0_1_1 rfl rfl rfl rfl _ _ R hl (by omega) (colW_ap _ R hl (expertW_ap hg R))

/-- Each row's weight scales: its group's. -/
theorem wscale_at (R : Fin 24576) (j : Fin 1792) : V m c main_v33 (ix2 R j) = m ((c : Thread nD τ).loc main_arg4) (ix2 (groupOf (gOf m c) R.val) j) := by
  have hl := expert_lt (sizes (gOf m c)) R.val
  rw [V_wscale]
  exact gather_row (nb := 4) (B := 1792) (n := 24576) gather_S4x1792_S24576x1_S24576x1792_1_0_n_n_0_1_11792 rfl rfl rfl rfl rfl _ _ R j (groupOf (gOf m c) R.val)
    (colW_ap _ R hl (expertW_ap hg R)) (by decide)

end

end Cert.ReferenceIdeal.Gen

end
-- ==== Proof.RefBlock.lean ====
/-
  What the reference's body computes at an index: the products with the four groups' weights, of which the row's group selects one.
-/
module

public import proofs.«01_k».proof.Proof.Gen.ReferenceIdeal.Frame
public import proofs.«01_k».proof.Proof.Entry
public import Idealize.ShloMosaic.Lib.Pipeline.Value
public import Idealize.ShloMosaic.Lib.WordCmp
public import Mathlib.Tactic.IntervalCases

@[expose] public section

set_option maxRecDepth 16384

noncomputable section

namespace Cert.ReferenceIdeal.Gen

open Idealize.ShloMosaic
open Cert.Entry

/-! ## The payloads at an index -/

/-- The quantised activations. -/
theorem pay3_at (v0 : Vec Ideal S24576x1 .f32) (v2 : Vec Ideal S24576x2048 .bf16) (R : Fin 24576) (k : Fin 2048) :
    k0_pay3 v0 v2 (ix2 R k) = quant (v2 (ix2 R k)) (v0 (ix2 R 0)) := by
  pointwise [k0_pay3, k0_pay2]
  rfl

/-- The activation scales. -/
theorem pay2_at (v0 : Vec Ideal S24576x1 .f32) (R : Fin 24576) : k0_pay2 v0 (ix2 R 0) = v0 (ix2 R 0) := by
  pointwise [k0_pay2]

/-- Where the third group's rows are. -/
theorem pay5_at (v : Vec Ideal S24576x1 .i32) (R : Fin 24576) : k0_pay5 (F := Ideal) v (ix2 R 0) = IntOp.cmpi .eq (v (ix2 R 0)) 2#32 := by
  pointwise [k0_pay5]

/-- The products of the first two groups' rows. -/
theorem pay4_at (v0 : Vec Ideal S24576x1 .f32) (v2 : Vec Ideal S24576x2048 .bf16) (v12 : Vec Ideal S24576x1 .i32) (v16 : Vec Ideal S1x2048x1792 .fp8e4m3)
    (v22 : Vec Ideal S24576x1 .i32) (v26 : Vec Ideal S1x2048x1792 .fp8e4m3) (R : Fin 24576) (j : Fin 1792) :
    k0_pay4 v0 v2 v12 v16 v22 v26 (ix2 R j)
      = Scalar.select (IntOp.cmpi .eq (v22 (ix2 R 0)) 1#32) (∑ k, k0_pay3 v0 v2 (ix2 R k) * v26 (ix3 0 k j))
          (Scalar.select (IntOp.cmpi .eq (v12 (ix2 R 0)) 0#32) (∑ k, k0_pay3 v0 v2 (ix2 R k) * v16 (ix3 0 k j)) 0) := by
  pointwise [k0_pay4]

/-- The result. -/
theorem pay1_at (v1 : FVec Ideal S24576x1 .f32) (v10 : FVec Ideal S24576x2048 .fp8e4m3) (v31 : FVec Ideal S24576x1792 .f32) (v35 : IVec S24576x1 1)
    (v36 : Vec Ideal S1x2048x1792 .fp8e4m3) (v42 : Vec Ideal S24576x1 .i32) (v46 : Vec Ideal S1x2048x1792 .fp8e4m3) (v52 : Vec Ideal S24576x1792 .f32)
    (R : Fin 24576) (j : Fin 1792) :
    k0_pay1 v1 v10 v31 v35 v36 v42 v46 v52 (ix2 R j)
      = Scalar.select (IntOp.cmpi .eq (v42 (ix2 R 0)) 3#32) (∑ k, v10 (ix2 R k) * v46 (ix3 0 k j))
          (Scalar.select (v35 (ix2 R 0)) (∑ k, v10 (ix2 R k) * v36 (ix3 0 k j)) (v31 (ix2 R j))) * (v1 (ix2 R 0) * v52 (ix2 R j)) := by
  pointwise [k0_pay1]

/-! ## The body's result at an index -/

/-- A group's weights, loaded. -/
theorem ld_group (x4 : Vec Ideal S4x2048x1792 .fp8e4m3) (e : Fin 4) {off : Fin 3 → Nat} (ho : off = ![e.val, 0, 0])
    (inb : ∀ a, off a + S1x2048x1792.size a ≤ S4x2048x1792.size a) (k : Fin 2048) (j : Fin 1792) :
    View.ld x4 (Rect.unit (s := S4x2048x1792) off S1x2048x1792.size inb) (ix3 (0 : Fin 1) k j) = x4 (ix3 e k j) := by
  subst ho
  refine congrArg x4 (funext fun a => Fin.ext ?_)
  match a with
  | ⟨0, _⟩ => show e.val + 1 * 0 = e.val; omega
  | ⟨1, _⟩ => show 0 + 1 * k.val = k.val; omega
  | ⟨2, _⟩ => show 0 + 1 * j.val = j.val; omega

/-- A product with a group's weights, loaded. -/
theorem sum_group (x4 : Vec Ideal S4x2048x1792 .fp8e4m3) (e : Fin 4) {off : Fin 3 → Nat} (ho : off = ![e.val, 0, 0])
    (inb : ∀ a, off a + S1x2048x1792.size a ≤ S4x2048x1792.size a) (q : Fin 2048 → EReal) (j : Fin 1792) :
    (∑ k, q k * View.ld x4 (Rect.unit (s := S4x2048x1792) off S1x2048x1792.size inb) (ix3 (0 : Fin 1) k j)) = ∑ k, q k * x4 (ix3 e k j) :=
  Finset.sum_congr rfl fun k _ => congrArg (q k * ·) (ld_group x4 e ho inb k j)

/-- The zero offsets of a rank-2 buffer. -/
theorem off2_zero : (![0, 0] : Fin 2 → Nat) = fun _ => 0 := by funext a; fin_cases a <;> rfl

/-- The body's result at a row of group `e`. -/
theorem out_at (x0 : Vec Ideal S24576x1 .i32) (x1 : Vec Ideal S24576x1 .f32) (x2 : Vec Ideal S24576x1792 .f32) (x3 : Vec Ideal S24576x2048 .bf16)
    (x4 : Vec Ideal S4x2048x1792 .fp8e4m3) (R : Fin 24576) (j : Fin 1792) (e : Fin 4) (he : x0 (ix2 R 0) = BitVec.ofNat 32 e.val) :
    out0_5 x0 x1 x2 x3 x4 (ix2 R j) = entry (fun k => x3 (ix2 R k)) (x1 (ix2 R 0)) (fun k => x4 (ix3 e k j)) (x2 (ix2 R j)) := by
  have h0 : View.ld x0 r0_0 = x0 := View.ld_unit_zero off2_zero _ x0
  have h1 : View.ld x1 r0_0 = x1 := View.ld_unit_zero off2_zero _ x1
  have h2 : View.ld x2 r0_6 = x2 := View.ld_unit_zero off2_zero _ x2
  have h3 : View.ld x3 r0_1 = x3 := View.ld_unit_zero off2_zero _ x3
  unfold out0_5
  rw [View.canon_unit_zero off2_zero, h0, h1, h2, h3, pay1_at, pay2_at, pay5_at, pay4_at, he]
  unfold entry
  simp only [pay3_at]
  rw [sum_group x4 0 (off := ![0, 0, 0]) rfl, sum_group x4 1 (off := ![1, 0, 0]) rfl, sum_group x4 2 (off := ![2, 0, 0]) rfl, sum_group x4 3 (off := ![3, 0, 0]) rfl]
  congr 1
  match e with
  | ⟨0, _⟩ => rfl
  | ⟨1, _⟩ => rfl
  | ⟨2, _⟩ => rfl
  | ⟨3, _⟩ => rfl

end Cert.ReferenceIdeal.Gen

end
-- ==== Proof.RefValue.lean ====
/-
  What the reference's result array holds after its run: the problem's result, at every index.
-/
module

public import proofs.«01_k».proof.Proof.Gen.ReferenceIdeal.Value
public import proofs.«01_k».proof.Proof.RefReads
public import proofs.«01_k».proof.Proof.RefBlock

@[expose] public section

set_option maxRecDepth 16384

noncomputable section

namespace Cert.ReferenceIdeal.Gen

open Idealize.ShloMosaic Idealize.ShloMosaic.TcCoe
open Idealize.SL.Sem
open Cert.Entry
open Cert.Tables (sizes Ragged)

variable (m : (ℓ : Loc nD τ sig) → Buf (Elt Ideal) ℓ) (c : Dev nD)

/-- Each input's block is its whole array. -/
theorem iblk_0 (t : Fin cfg0.N) (i : S24576x1.Idx) : iblk m c 0 t i = V m c main_v25 i := by
  refine congrArg (V m c main_v25) (funext fun a => Fin.ext ?_)
  refine Pipeline.Window.rect_emb_val_of_index_zero (cfg0.win 0) t a ?_ _
  match a with
  | ⟨0, _⟩ => rfl
  | ⟨1, _⟩ => rfl
/-- The block of activation scales is the whole array. -/
theorem iblk_1 (t : Fin cfg0.N) (i : S24576x1.Idx) : iblk m c 1 t i = V m c main_v26 i := by
  refine congrArg (V m c main_v26) (funext fun a => Fin.ext ?_)
  refine Pipeline.Window.rect_emb_val_of_index_zero (cfg0.win 1) t a ?_ _
  match a with
  | ⟨0, _⟩ => rfl
  | ⟨1, _⟩ => rfl
/-- The block of weight scales is the whole array. -/
theorem iblk_2 (t : Fin cfg0.N) (i : S24576x1792.Idx) : iblk m c 2 t i = V m c main_v33 i := by
  refine congrArg (V m c main_v33) (funext fun a => Fin.ext ?_)
  refine Pipeline.Window.rect_emb_val_of_index_zero (cfg0.win 2) t a ?_ _
  match a with
  | ⟨0, _⟩ => rfl
  | ⟨1, _⟩ => rfl
/-- The block of activations is the whole argument. -/
theorem iblk_3 (t : Fin cfg0.N) (i : S24576x2048.Idx) : iblk m c 3 t i = m ((c : Thread nD τ).loc main_arg0) i := by
  refine Eq.trans ?_ (congrFun (V_main_arg0 m c) i)
  refine congrArg (V m c main_arg0) (funext fun a => Fin.ext ?_)
  refine Pipeline.Window.rect_emb_val_of_index_zero (cfg0.win 3) t a ?_ _
  match a with
  | ⟨0, _⟩ => rfl
  | ⟨1, _⟩ => rfl
/-- The block of weights is the whole argument. -/
theorem iblk_4 (t : Fin cfg0.N) (i : S4x2048x1792.Idx) : iblk m c 4 t i = m ((c : Thread nD τ).loc main_arg3) i := by
  refine Eq.trans ?_ (congrFun (V_main_arg3 m c) i)
  refine congrArg (V m c main_arg3) (funext fun a => Fin.ext ?_)
  refine Pipeline.Window.rect_emb_val_of_index_zero (cfg0.win 4) t a ?_ _
  match a with
  | ⟨0, _⟩ => rfl
  | ⟨1, _⟩ => rfl
  | ⟨2, _⟩ => rfl

/-- The output's block is its whole array. -/
theorem emb_5 (t : Fin cfg0.N) (i : S24576x1792.Idx) : ((cfg0.win 5).blk t).view.emb i = i := by
  refine funext fun a => Fin.ext ?_
  refine Pipeline.Window.rect_emb_val_of_index_zero (cfg0.win 5) t a ?_ _
  match a with
  | ⟨0, _⟩ => rfl
  | ⟨1, _⟩ => rfl

/-- The result array is what the body leaves at the one point of the grid. -/
theorem arr_body (i : S24576x1792.Idx) : (dats m 0 c).arrAt 5 cfg0.N i
    = out0_5 (iblk m c 0 t0_0) (iblk m c 1 t0_0) (iblk m c 2 t0_0) (iblk m c 3 t0_0) (iblk m c 4 t0_0) i := by
  have h1 : ((cfg0.win 5).blk t0_0).view.read (Elt Ideal) ((dats m 0 c).arrAt 5 cfg0.N) i = (dats m 0 c).flushed 5 t0_0 i :=
    congrFun (Value.blocks5 m c t0_0 (flush0_5 t0_0)) i
  have h2 : (dats m 0 c).flushed 5 t0_0 i = out0_5 (iblk m c 0 t0_0) (iblk m c 1 t0_0) (iblk m c 2 t0_0) (iblk m c 3 t0_0) (iblk m c 4 t0_0) i :=
    congrFun (Value.flushed5 m c t0_0) i
  have h3 : ∀ f : S24576x1792.Idx → EReal, ((cfg0.win 5).blk t0_0).view.read (Elt Ideal) f i = f i := fun f => congrArg f (emb_5 t0_0 i)
  exact (h3 _).symm.trans (h1.trans h2)

variable (hg : Ragged (gOf m c))
include hg

/-- What the body leaves, at an index: the problem's result. -/
theorem body_at (t : Fin cfg0.N) (R : Fin 24576) (j : Fin 1792) :
    out0_5 (iblk m c 0 t) (iblk m c 1 t) (iblk m c 2 t) (iblk m c 3 t) (iblk m c 4 t) (ix2 R j)
      = outAt (m ((c : Thread nD τ).loc main_arg0)) (gOf m c) (m ((c : Thread nD τ).loc main_arg2)) (m ((c : Thread nD τ).loc main_arg3)) (m ((c : Thread nD τ).loc main_arg4)) R j := by
  refine (out_at _ _ _ _ _ R j (groupOf (gOf m c) R.val) ((iblk_0 m c t _).trans (group_at m c hg R))).trans ?_
  exact entry_congr (funext fun k => iblk_3 m c t _) ((iblk_1 m c t _).trans (scale_at m c hg R)) (funext fun k => iblk_4 m c t _) ((iblk_2 m c t _).trans (wscale_at m c hg R j))

/-- The result array after the run. -/
theorem array_eq : (dats m 0 c).arrAt 5 cfg0.N
    = out (m ((c : Thread nD τ).loc main_arg0)) (gOf m c) (m ((c : Thread nD τ).loc main_arg2)) (m ((c : Thread nD τ).loc main_arg3)) (m ((c : Thread nD τ).loc main_arg4)) := by
  funext i
  have hi : i = (ix2 (i 0 : Fin 24576) (i 1 : Fin 1792) : S24576x1792.Idx) := by
    funext a
    match a with
    | ⟨0, _⟩ => rfl
    | ⟨1, _⟩ => rfl
  exact (arr_body m c i).trans ((congrArg (out0_5 (iblk m c 0 t0_0) (iblk m c 1 t0_0) (iblk m c 2 t0_0) (iblk m c 3 t0_0) (iblk m c 4 t0_0)) hi).trans
    (body_at m c hg t0_0 (i 0) (i 1)))

omit hg in
/-- The reference's run: its result array holds the problem's result, its arguments are unchanged. -/
theorem run_value (ρ : Dev nD → PrngReg) (hg : ∀ c : Dev nD, Ragged (gOf m c)) :
    θ_run defs (onTc (τ := τ) (main (F := Ideal))) ⟨m, fun _ => 0, ρ⟩ fun r => ∀ c : Dev nD,
      r.2.mem ((c : Thread nD τ).loc main_v34)
        = out (m ((c : Thread nD τ).loc main_arg0)) (gOf m c) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1).trans (array_eq m c (hg c)), (h c).2⟩) (Value.run_blocks m ρ)

end Cert.ReferenceIdeal.Gen

end
-- ==== Proof.lean ====
/-
  The certificate: each program's frame under the partition of the rows, and the two programs' relation.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_ragged
public import proofs.«01_k».proof.Proof.Precondition
public import proofs.«01_k».proof.Proof.KernelTables
public import proofs.«01_k».proof.Proof.KernelFrame
public import proofs.«01_k».proof.Proof.IdealTables
public import proofs.«01_k».proof.Proof.IdealFrame
public import proofs.«01_k».proof.Proof.IdealArray
public import proofs.«01_k».proof.Proof.RefValue

@[expose] public section

noncomputable section

namespace Cert.Proof

open Idealize.ShloMosaic Idealize.SL.Sem Cert.Kernel

/-- The kernel terminates without fault, leaves its arguments alone and its semaphores at zero, when the groups partition the rows. -/
theorem kernel_frame : Cert.quiescent_Kernel (hKernel := Cert.Kernel.Gen.facts) (hPre_ragged := Cert.Pre_ragged.Gen.facts) :=
  fun m ρ h =>
    have hg : Cert.Tables.Ragged (Cert.Kernel.Gen.gOf m 0) := Cert.Tables.ragged_of_fn _ _ _ _ _ (h 0)
    Cert.Kernel.Gen.frame m ρ (Cert.Kernel.Gen.ok_of m hg) (Cert.Kernel.Gen.hyps_of m hg)

/-- The same of the kernel over the extended reals. -/
theorem ideal_frame : Cert.quiescent_KernelIdeal (hKernelIdeal := Cert.KernelIdeal.Gen.facts) (hPre_ragged := Cert.Pre_ragged.Gen.facts) :=
  fun m ρ h =>
    have hg : Cert.Tables.Ragged (Cert.KernelIdeal.Gen.gOf m 0) := Cert.Tables.ragged_of_fn _ _ _ _ _ (h 0)
    Cert.KernelIdeal.Gen.frame m ρ (Cert.KernelIdeal.Gen.ok_of m hg) (Cert.KernelIdeal.Gen.hyps_of m hg)

/-- Kernel and reference compute the same result over the extended reals, when the groups partition the rows: both the formula `Cert.Entry.out`. -/
theorem same_result : Cert.algebraic_KernelIdeal_ReferenceIdeal (hKernelIdeal := Cert.KernelIdeal.Gen.facts) (hReferenceIdeal := Cert.ReferenceIdeal.Gen.facts)
    (hPre_ragged := Cert.Pre_ragged.Gen.facts) := by
  intro m g m' g' h hargs
  have hg : Cert.Tables.Ragged (Cert.KernelIdeal.Gen.gOf m 0) := Cert.Tables.ragged_of_fn _ _ _ _ _ (h 0)
  have hg' : ∀ c : Dev Cert.ReferenceIdeal.nD, Cert.Tables.Ragged (Cert.ReferenceIdeal.Gen.gOf m' c) := fun c => by
    obtain rfl : c = 0 := Subsingleton.elim _ _
    exact (show Cert.ReferenceIdeal.Gen.gOf m' 0 = Cert.KernelIdeal.Gen.gOf m 0 from (hargs 0).2.1) ▸ hg
  refine ⟨_, Cert.KernelIdeal.Gen.run_value m hg g, (θ_run Cert.ReferenceIdeal.defs _ _).mono (fun r hr c => ⟨((hr c).1).trans ?_, (hr c).2⟩)
    (Cert.ReferenceIdeal.Gen.run_value m' g' hg')⟩
  obtain rfl : c = 0 := Subsingleton.elim _ _
  obtain ⟨h0, h1, h2, h3, h4⟩ := hargs 0
  exact Cert.Entry.out_congr h0 h1 h2 h3 h4

/-- All the claims. -/
theorem claim : Cert.Claim := ⟨Cert.Kernel.Gen.facts, Cert.KernelIdeal.Gen.facts, Cert.ReferenceIdeal.Gen.facts, Cert.Pre_ragged.Gen.facts,
  kernel_frame, ideal_frame, fun m ρ _ => Cert.ReferenceIdeal.Gen.frame m ρ, fun m ρ _ => Cert.ReferenceIdeal.Gen.frame m ρ, trivial, same_result⟩

end Cert.Proof

end
